-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x4224x8208 : Shape := ⟨3, ![8, 4224, 8208]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S3x128x144 : Shape := ⟨3, ![3, 128, 144]⟩
abbrev S8x4224x3072 : Shape := ⟨3, ![8, 4224, 3072]⟩
abbrev S8x4224x5120 : Shape := ⟨3, ![8, 4224, 5120]⟩
abbrev S8x4224x8192 : Shape := ⟨3, ![8, 4224, 8192]⟩
abbrev S8x4224x16 : Shape := ⟨3, ![8, 4224, 16]⟩
abbrev S_ : Shape := ⟨0, ![]⟩
abbrev S8x4224x128 : Shape := ⟨3, ![8, 4224, 128]⟩
abbrev S1x2048 : Shape := ⟨2, ![1, 2048]⟩
abbrev S1x16 : Shape := ⟨2, ![1, 16]⟩
abbrev S1x128 : Shape := ⟨2, ![1, 128]⟩
abbrev S16x1 : Shape := ⟨2, ![16, 1]⟩
abbrev S16x128 : Shape := ⟨2, ![16, 128]⟩
abbrev S16x64 : Shape := ⟨2, ![16, 64]⟩
abbrev S1x1024 : Shape := ⟨2, ![1, 1024]⟩
abbrev S8x4224x1024 : Shape := ⟨3, ![8, 4224, 1024]⟩
abbrev S1x384x1024 : Shape := ⟨3, ![1, 384, 1024]⟩
abbrev S1x384x128 : Shape := ⟨3, ![1, 384, 128]⟩
abbrev S16x2048 : Shape := ⟨2, ![16, 2048]⟩
abbrev S128x2048 : Shape := ⟨2, ![128, 2048]⟩
abbrev S128x1024 : Shape := ⟨2, ![128, 1024]⟩
abbrev S1024x128 : Shape := ⟨2, ![1024, 128]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S1x512 : Shape := ⟨2, ![1, 512]⟩
abbrev S1x128x144 : Shape := ⟨3, ![1, 128, 144]⟩
abbrev S128x144 : Shape := ⟨2, ![128, 144]⟩
abbrev S1x128x128 : Shape := ⟨3, ![1, 128, 128]⟩
abbrev S128x128 : Shape := ⟨2, ![128, 128]⟩
abbrev S112x128 : Shape := ⟨2, ![112, 128]⟩
abbrev S128x1 : Shape := ⟨2, ![128, 1]⟩
abbrev S1x1 : Shape := ⟨2, ![1, 1]⟩
abbrev S1x128x1024 : Shape := ⟨3, ![1, 128, 1024]⟩
abbrev S128x256 : Shape := ⟨2, ![128, 256]⟩
abbrev S128 : Shape := ⟨1, ![128]⟩
abbrev S1x256 : Shape := ⟨2, ![1, 256]⟩
abbrev S1x128x256 : Shape := ⟨3, ![1, 128, 256]⟩

abbrev nBuf : Space → Nat
  | .hbm => 28
  | .vmem => 21
  | .smem => 0
  | _ => 0

abbrev bufTy : (tb : Table) → Fin (tcTables nBuf tb) → BufTy
  | .hbm, ⟨0, _⟩ => ⟨S8x4224x8208, .f32⟩
  | .hbm, ⟨1, _⟩ => ⟨S4x2048, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S3x128x144, .bf16⟩
  | .hbm, ⟨8, _⟩ => ⟨S8x4224x3072, .f32⟩
  | .hbm, ⟨9, _⟩ => ⟨S8x4224x5120, .f32⟩
  | .hbm, ⟨10, _⟩ => ⟨S8x4224x8192, .f32⟩
  | .hbm, ⟨11, _⟩ => ⟨S8x4224x8192, .bf16⟩
  | .hbm, ⟨12, _⟩ => ⟨S8x4224x16, .f32⟩
  | .hbm, ⟨13, _⟩ => ⟨S_, .i32⟩
  | .hbm, ⟨14, _⟩ => ⟨S_, .f32⟩
  | .hbm, ⟨15, _⟩ => ⟨S8x4224x128, .f32⟩
  | .hbm, ⟨16, _⟩ => ⟨S1x2048, .f32⟩
  | .hbm, ⟨17, _⟩ => ⟨S1x16, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S16x1, .f32⟩
  | .hbm, ⟨22, _⟩ => ⟨S16x128, .f32⟩
  | .hbm, ⟨23, _⟩ => ⟨S16x64, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S8x4224x1024, .bf16⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .bf16⟩
  | .local _ .vmem, ⟨3, _⟩ => ⟨S1x384x1024, .bf16⟩
  | .local _ .vmem, ⟨4, _⟩ => ⟨S1x384x1024, .bf16⟩
  | .local _ .vmem, ⟨5, _⟩ => ⟨S1x384x1024, .bf16⟩
  | .local _ .vmem, ⟨6, _⟩ => ⟨S1x384x128, .f32⟩
  | .local _ .vmem, ⟨7, _⟩ => ⟨S1x384x128, .f32⟩
  | .local _ .vmem, ⟨8, _⟩ => ⟨S4x2048, .f32⟩
  | .local _ .vmem, ⟨9, _⟩ => ⟨S1x2048, .f32⟩
  | .local _ .vmem, ⟨10, _⟩ => ⟨S1x128, .f32⟩
  | .local _ .vmem, ⟨11, _⟩ => ⟨S16x128, .f32⟩
  | .local _ .vmem, ⟨12, _⟩ => ⟨S1x1024, .f32⟩
  | .local _ .vmem, ⟨13, _⟩ => ⟨S1x1024, .f32⟩
  | .local _ .vmem, ⟨14, _⟩ => ⟨S3x128x144, .bf16⟩
  | .local _ .vmem, ⟨15, _⟩ => ⟨S1x384x1024, .bf16⟩
  | .local _ .vmem, ⟨16, _⟩ => ⟨S1x384x1024, .bf16⟩
  | .local _ .vmem, ⟨17, _⟩ => ⟨S16x2048, .bf16⟩
  | .local _ .vmem, ⟨18, _⟩ => ⟨S128x2048, .f32⟩
  | .local _ .vmem, ⟨19, _⟩ => ⟨S128x1024, .f32⟩
  | .local _ .vmem, ⟨20, _⟩ => ⟨S1024x128, .f32⟩
  | _, _ => ⟨S8x4224x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x128x144 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2.lean ====
abbrev S8x4224x1024 : Shape := ⟨3, ![8, 4224, 1024]⟩
abbrev S1024 : Shape := ⟨1, ![1024]⟩
abbrev S1024x8208 : Shape := ⟨2, ![1024, 8208]⟩
abbrev S1024x3072 : Shape := ⟨2, ![1024, 3072]⟩
abbrev S1024x5120 : Shape := ⟨2, ![1024, 5120]⟩
abbrev S1024x8192 : Shape := ⟨2, ![1024, 8192]⟩
abbrev S1024x16 : Shape := ⟨2, ![1024, 16]⟩
abbrev S_ : Shape := ⟨0, ![]⟩
abbrev S1024x128 : Shape := ⟨2, ![1024, 128]⟩
abbrev S33792x1024 : Shape := ⟨2, ![33792, 1024]⟩
abbrev S1x1024 : Shape := ⟨2, ![1, 1024]⟩
abbrev S33792x8192 : Shape := ⟨2, ![33792, 8192]⟩
abbrev S33792x128 : Shape := ⟨2, ![33792, 128]⟩
abbrev S1024x1024 : Shape := ⟨2, ![1024, 1024]⟩
abbrev S1024x4096 : Shape := ⟨2, ![1024, 4096]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x8208, .f32⟩
  | .hbm, ⟨3, _⟩ => ⟨S1024x3072, .f32⟩
  | .hbm, ⟨4, _⟩ => ⟨S1024x5120, .f32⟩
  | .hbm, ⟨5, _⟩ => ⟨S1024x8192, .f32⟩
  | .hbm, ⟨6, _⟩ => ⟨S1024x8192, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S33792x1024, .f32⟩
  | .hbm, ⟨13, _⟩ => ⟨S1x1024, .f32⟩
  | .hbm, ⟨14, _⟩ => ⟨S33792x8192, .bf16⟩
  | .hbm, ⟨15, _⟩ => ⟨S33792x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x128, .bf16⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![33, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x4224x1024 : Shape := ⟨3, ![8, 4224, 1024]⟩
abbrev S1024 : Shape := ⟨1, ![1024]⟩
abbrev S1024x8208 : Shape := ⟨2, ![1024, 8208]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S8x4224x8208 : Shape := ⟨3, ![8, 4224, 8208]⟩
abbrev S8x4224x3072 : Shape := ⟨3, ![8, 4224, 3072]⟩
abbrev S8x4224x5120 : Shape := ⟨3, ![8, 4224, 5120]⟩
abbrev S8x4224x8192 : Shape := ⟨3, ![8, 4224, 8192]⟩
abbrev S8x4224x16 : Shape := ⟨3, ![8, 4224, 16]⟩
abbrev S8x4224x128 : Shape := ⟨3, ![8, 4224, 128]⟩
abbrev S33792x8192 : Shape := ⟨2, ![33792, 8192]⟩
abbrev S33792x128 : Shape := ⟨2, ![33792, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x8208, .f32⟩
  | .hbm, ⟨3, _⟩ => ⟨S8x4224x1024, .f32⟩
  | .hbm, ⟨4, _⟩ => ⟨S_, .f32⟩
  | .hbm, ⟨5, _⟩ => ⟨S8x4224, .f32⟩
  | .hbm, ⟨6, _⟩ => ⟨S8x4224x1, .f32⟩
  | .hbm, ⟨7, _⟩ => ⟨S_, .f32⟩
  | .hbm, ⟨8, _⟩ => ⟨S8x4224x1, .f32⟩
  | .hbm, ⟨9, _⟩ => ⟨S8x4224x1, .f32⟩
  | .hbm, ⟨10, _⟩ => ⟨S_, .f32⟩
  | .hbm, ⟨11, _⟩ => ⟨S8x4224x1, .f32⟩
  | .hbm, ⟨12, _⟩ => ⟨S8x4224x1, .f32⟩
  | .hbm, ⟨13, _⟩ => ⟨S8x4224x1, .f32⟩
  | .hbm, ⟨14, _⟩ => ⟨S8x4224x1024, .f32⟩
  | .hbm, ⟨15, _⟩ => ⟨S8x4224x1024, .f32⟩
  | .hbm, ⟨16, _⟩ => ⟨S1x1x1024, .f32⟩
  | .hbm, ⟨17, _⟩ => ⟨S8x4224x1024, .f32⟩
  | .hbm, ⟨18, _⟩ => ⟨S8x4224x1024, .f32⟩
  | .hbm, ⟨19, _⟩ => ⟨S8x4224x8208, .f32⟩
  | .hbm, ⟨20, _⟩ => ⟨S8x4224x3072, .f32⟩
  | .hbm, ⟨21, _⟩ => ⟨S8x4224x5120, .f32⟩
  | .hbm, ⟨22, _⟩ => ⟨S8x4224x8192, .f32⟩
  | .hbm, ⟨23, _⟩ => ⟨S8x4224x8192, .bf16⟩
  | .hbm, ⟨24, _⟩ => ⟨S8x4224x16, .f32⟩
  | .hbm, ⟨25, _⟩ => ⟨S_, .i32⟩
  | .hbm, ⟨26, _⟩ => ⟨S_, .f32⟩
  | .hbm, ⟨27, _⟩ => ⟨S8x4224x128, .f32⟩
  | .hbm, ⟨28, _⟩ => ⟨S33792x8192, .bf16⟩
  | .hbm, ⟨29, _⟩ => ⟨S33792x128, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S8x4224x1024 : Shape := ⟨3, ![8, 4224, 1024]⟩
abbrev S8x4224x8208 : Shape := ⟨3, ![8, 4224, 8208]⟩
abbrev S1024x1024 : Shape := ⟨2, ![1024, 1024]⟩
abbrev S8x4224x3072 : Shape := ⟨3, ![8, 4224, 3072]⟩
abbrev S8x4224x5120 : Shape := ⟨3, ![8, 4224, 5120]⟩
abbrev S8x4224x8192 : Shape := ⟨3, ![8, 4224, 8192]⟩
abbrev S33792x1024 : Shape := ⟨2, ![33792, 1024]⟩
abbrev S33792x8192 : Shape := ⟨2, ![33792, 8192]⟩
abbrev S768x1024 : Shape := ⟨2, ![768, 1024]⟩

abbrev nBuf : Space → Nat
  | .hbm => 21
  | .vmem => 15
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .f32⟩
  | .hbm, ⟨2, _⟩ => ⟨S8x4224x1024, .f32⟩
  | .hbm, ⟨3, _⟩ => ⟨S8x4224x8208, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8x4224x3072, .f32⟩
  | .hbm, ⟨8, _⟩ => ⟨S8x4224x5120, .f32⟩
  | .hbm, ⟨9, _⟩ => ⟨S8x4224x8192, .f32⟩
  | .hbm, ⟨10, _⟩ => ⟨S8x4224x8192, .bf16⟩
  | .hbm, ⟨11, _⟩ => ⟨S33792x1024, .f32⟩
  | .hbm, ⟨12, _⟩ => ⟨S8x4224x1024, .bf16⟩
  | .hbm, ⟨13, _⟩ => ⟨S33792x1024, .bf16⟩
  | .hbm, ⟨14, _⟩ => ⟨S8x4224x1024, .bf16⟩
  | .hbm, ⟨15, _⟩ => ⟨S33792x1024, .bf16⟩
  | .hbm, ⟨16, _⟩ => ⟨S33792x8192, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S33792x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S768x1024, .f32⟩
  | .local _ .vmem, ⟨14, _⟩ => ⟨S768x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x4224x1024 : Shape := ⟨3, ![8, 4224, 1024]⟩
abbrev S8x4224x8208 : Shape := ⟨3, ![8, 4224, 8208]⟩
abbrev S1024x1024 : Shape := ⟨2, ![1024, 1024]⟩
abbrev S_ : Shape := ⟨0, ![]⟩
abbrev S33792x1024 : Shape := ⟨2, ![33792, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .f32⟩
  | .hbm, ⟨2, _⟩ => ⟨S8x4224x1024, .f32⟩
  | .hbm, ⟨3, _⟩ => ⟨S8x4224x8208, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S8x4224x1024, .f32⟩
  | .hbm, ⟨8, _⟩ => ⟨S8x4224x1024, .f32⟩
  | .hbm, ⟨9, _⟩ => ⟨S8x4224x1024, .f32⟩
  | .hbm, ⟨10, _⟩ => ⟨S8x4224x1024, .f32⟩
  | .hbm, ⟨11, _⟩ => ⟨S_, .f32⟩
  | .hbm, ⟨12, _⟩ => ⟨S8x4224x1024, .f32⟩
  | .hbm, ⟨13, _⟩ => ⟨S8x4224x1024, .f32⟩
  | .hbm, ⟨14, _⟩ => ⟨S_, .f32⟩
  | .hbm, ⟨15, _⟩ => ⟨S8x4224x1024, .f32⟩
  | .hbm, ⟨16, _⟩ => ⟨S8x4224x1024, .f32⟩
  | .hbm, ⟨17, _⟩ => ⟨S8x4224x1024, .f32⟩
  | .hbm, ⟨18, _⟩ => ⟨S8x4224x1024, .f32⟩
  | .hbm, ⟨19, _⟩ => ⟨S8x4224x1024, .f32⟩
  | .hbm, ⟨20, _⟩ => ⟨S8x4224x1024, .f32⟩
  | .hbm, ⟨21, _⟩ => ⟨S_, .f32⟩
  | .hbm, ⟨22, _⟩ => ⟨S8x4224x1024, .f32⟩
  | .hbm, ⟨23, _⟩ => ⟨S8x4224x1024, .f32⟩
  | .hbm, ⟨24, _⟩ => ⟨S_, .f32⟩
  | .hbm, ⟨25, _⟩ => ⟨S8x4224x1024, .f32⟩
  | .hbm, ⟨26, _⟩ => ⟨S8x4224x1024, .f32⟩
  | .hbm, ⟨27, _⟩ => ⟨S8x4224x1024, .f32⟩
  | .hbm, ⟨28, _⟩ => ⟨S8x4224x1024, .f32⟩
  | .hbm, ⟨29, _⟩ => ⟨S8x4224x1024, .f32⟩
  | .hbm, ⟨30, _⟩ => ⟨S8x4224x1024, .f32⟩
  | .hbm, ⟨31, _⟩ => ⟨S8x4224x1024, .f32⟩
  | .hbm, ⟨32, _⟩ => ⟨S33792x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel4.lean ====
abbrev S8x4224x1024 : Shape := ⟨3, ![8, 4224, 1024]⟩
abbrev S1024 : Shape := ⟨1, ![1024]⟩
abbrev S1x1024 : Shape := ⟨2, ![1, 1024]⟩
abbrev S8x4096x1024 : Shape := ⟨3, ![8, 4096, 1024]⟩
abbrev S1x512x1024 : Shape := ⟨3, ![1, 512, 1024]⟩
abbrev S1x16x1024 : Shape := ⟨3, ![1, 16, 1024]⟩
abbrev S1x496x1024 : Shape := ⟨3, ![1, 496, 1024]⟩
abbrev S496x1024 : Shape := ⟨2, ![496, 1024]⟩
abbrev S496 : Shape := ⟨1, ![496]⟩
abbrev S496x1 : Shape := ⟨2, ![496, 1]⟩
abbrev S16x1024 : Shape := ⟨2, ![16, 1024]⟩
abbrev S16 : Shape := ⟨1, ![16]⟩
abbrev S16x1 : Shape := ⟨2, ![16, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1x1024, .f32⟩
  | .hbm, ⟨3, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x4224x1024 : Shape := ⟨3, ![8, 4224, 1024]⟩
abbrev S1024 : Shape := ⟨1, ![1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S8x4096x1024 : Shape := ⟨3, ![8, 4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S8x4224x1024, .f32⟩
  | .hbm, ⟨3, _⟩ => ⟨S_, .f32⟩
  | .hbm, ⟨4, _⟩ => ⟨S8x4224, .f32⟩
  | .hbm, ⟨5, _⟩ => ⟨S8x4224x1, .f32⟩
  | .hbm, ⟨6, _⟩ => ⟨S_, .f32⟩
  | .hbm, ⟨7, _⟩ => ⟨S8x4224x1, .f32⟩
  | .hbm, ⟨8, _⟩ => ⟨S8x4224x1, .f32⟩
  | .hbm, ⟨9, _⟩ => ⟨S_, .f32⟩
  | .hbm, ⟨10, _⟩ => ⟨S8x4224x1, .f32⟩
  | .hbm, ⟨11, _⟩ => ⟨S8x4224x1, .f32⟩
  | .hbm, ⟨12, _⟩ => ⟨S8x4224x1, .f32⟩
  | .hbm, ⟨13, _⟩ => ⟨S8x4224x1024, .f32⟩
  | .hbm, ⟨14, _⟩ => ⟨S8x4224x1024, .f32⟩
  | .hbm, ⟨15, _⟩ => ⟨S1x1x1024, .f32⟩
  | .hbm, ⟨16, _⟩ => ⟨S8x4224x1024, .f32⟩
  | .hbm, ⟨17, _⟩ => ⟨S8x4224x1024, .f32⟩
  | .hbm, ⟨18, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8x4224x1024 : Shape := ⟨3, ![8, 4224, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x2112x1024 : Shape := ⟨3, ![1, 2112, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S2112x1024 : Shape := ⟨2, ![2112, 1024]⟩
abbrev S2x2120x256 : Shape := ⟨3, ![2, 2120, 256]⟩
abbrev S11x2x8x256 : Shape := ⟨4, ![11, 2, 8, 256]⟩
abbrev S2112 : Shape := ⟨1, ![2112]⟩
abbrev S2112x1 : Shape := ⟨2, ![2112, 1]⟩
abbrev S2112x256 : Shape := ⟨2, ![2112, 256]⟩
abbrev S1x1x8x256 : Shape := ⟨4, ![1, 1, 8, 256]⟩
abbrev S8x256 : Shape := ⟨2, ![8, 256]⟩
abbrev S1x8x256 : Shape := ⟨3, ![1, 8, 256]⟩
abbrev S1x2112x256 : Shape := ⟨3, ![1, 2112, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S8x4224x1024, .f32⟩
  | .local _ .vmem, ⟨0, _⟩ => ⟨S1x2112x1024, .f32⟩
  | .local _ .vmem, ⟨1, _⟩ => ⟨S1x2112x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S1x2112x1024, .f32⟩
  | .local _ .vmem, ⟨18, _⟩ => ⟨S1x2112x1024, .f32⟩
  | .local _ .vmem, ⟨19, _⟩ => ⟨S2112x1024, .bf16⟩
  | .local _ .vmem, ⟨20, _⟩ => ⟨S2x2120x256, .f32⟩
  | .local _ .vmem, ⟨21, _⟩ => ⟨S11x2x8x256, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 2, 11], ![false, false, false]⟩

def k0_off1 (i : grid0.Coords) : Fin 4 → Nat :=
  let arg2 : BitVec 32 := BitVec.ofNat 32 (i 2).val
  let v7 : Index := Scalar.indexCast arg2
  let c0_4 : Index := 0#32
  let c0_5 : Index := 0#32
  let c0_6 : Index := 0#32
  ![v7.toNat, 0, 0, 0]
def k0_off2 (i : grid0.Coords) : Fin 4 → Nat :=
  let arg2 : BitVec 32 := BitVec.ofNat 32 (i 2).val
  let v49 : Index := Scalar.indexCast arg2
  let c1_35 : Index := 1#32
  let c0_36 : Index := 0#32
  let c0_37 : Index := 0#32
  ![v49.toNat, 1, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x2112x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference5Ideal.lean ====
abbrev S8x4224x1024 : Shape := ⟨3, ![8, 4224, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S8x4224x5632 : Shape := ⟨3, ![8, 4224, 5632]⟩
abbrev S8x4226x5632 : Shape := ⟨3, ![8, 4226, 5632]⟩
abbrev S1x5632 : Shape := ⟨2, ![1, 5632]⟩
abbrev S1x1x5632 : Shape := ⟨3, ![1, 1, 5632]⟩
abbrev S8x4224x2816 : Shape := ⟨3, ![8, 4224, 2816]⟩

abbrev nBuf : Space → Nat
  | .hbm => 63
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x4224x1024, .f32⟩
  | .hbm, ⟨7, _⟩ => ⟨S_, .f32⟩
  | .hbm, ⟨8, _⟩ => ⟨S8x4224, .f32⟩
  | .hbm, ⟨9, _⟩ => ⟨S8x4224x1, .f32⟩
  | .hbm, ⟨10, _⟩ => ⟨S_, .f32⟩
  | .hbm, ⟨11, _⟩ => ⟨S8x4224x1, .f32⟩
  | .hbm, ⟨12, _⟩ => ⟨S8x4224x1, .f32⟩
  | .hbm, ⟨13, _⟩ => ⟨S_, .f32⟩
  | .hbm, ⟨14, _⟩ => ⟨S8x4224x1, .f32⟩
  | .hbm, ⟨15, _⟩ => ⟨S8x4224x1, .f32⟩
  | .hbm, ⟨16, _⟩ => ⟨S8x4224x1, .f32⟩
  | .hbm, ⟨17, _⟩ => ⟨S8x4224x1024, .f32⟩
  | .hbm, ⟨18, _⟩ => ⟨S8x4224x1024, .f32⟩
  | .hbm, ⟨19, _⟩ => ⟨S1x1x1024, .f32⟩
  | .hbm, ⟨20, _⟩ => ⟨S8x4224x1024, .f32⟩
  | .hbm, ⟨21, _⟩ => ⟨S8x4224x1024, .f32⟩
  | .hbm, ⟨22, _⟩ => ⟨S8x4224x5632, .f32⟩
  | .hbm, ⟨23, _⟩ => ⟨S_, .i32⟩
  | .hbm, ⟨24, _⟩ => ⟨S_, .f32⟩
  | .hbm, ⟨25, _⟩ => ⟨S8x4226x5632, .f32⟩
  | .hbm, ⟨26, _⟩ => ⟨S8x4224x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S8x4224x5632, .f32⟩
  | .hbm, ⟨31, _⟩ => ⟨S8x4224x5632, .f32⟩
  | .hbm, ⟨32, _⟩ => ⟨S8x4224x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x4224x5632, .f32⟩
  | .hbm, ⟨37, _⟩ => ⟨S8x4224x5632, .f32⟩
  | .hbm, ⟨38, _⟩ => ⟨S8x4224x5632, .f32⟩
  | .hbm, ⟨39, _⟩ => ⟨S8x4224x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S8x4224x5632, .f32⟩
  | .hbm, ⟨44, _⟩ => ⟨S8x4224x5632, .f32⟩
  | .hbm, ⟨45, _⟩ => ⟨S8x4224x5632, .f32⟩
  | .hbm, ⟨46, _⟩ => ⟨S1x1x5632, .f32⟩
  | .hbm, ⟨47, _⟩ => ⟨S8x4224x5632, .f32⟩
  | .hbm, ⟨48, _⟩ => ⟨S8x4224x5632, .f32⟩
  | .hbm, ⟨49, _⟩ => ⟨S8x4224x2816, .f32⟩
  | .hbm, ⟨50, _⟩ => ⟨S8x4224x2816, .f32⟩
  | .hbm, ⟨51, _⟩ => ⟨S8x4224x2816, .f32⟩
  | .hbm, ⟨52, _⟩ => ⟨S8x4224x2816, .f32⟩
  | .hbm, ⟨53, _⟩ => ⟨S_, .f32⟩
  | .hbm, ⟨54, _⟩ => ⟨S8x4224x2816, .f32⟩
  | .hbm, ⟨55, _⟩ => ⟨S8x4224x2816, .f32⟩
  | .hbm, ⟨56, _⟩ => ⟨S_, .f32⟩
  | .hbm, ⟨57, _⟩ => ⟨S8x4224x2816, .f32⟩
  | .hbm, ⟨58, _⟩ => ⟨S8x4224x2816, .f32⟩
  | .hbm, ⟨59, _⟩ => ⟨S8x4224x2816, .f32⟩
  | .hbm, ⟨60, _⟩ => ⟨S8x4224x2816, .f32⟩
  | .hbm, ⟨61, _⟩ => ⟨S8x4224x1024, .f32⟩
  | .hbm, ⟨62, _⟩ => ⟨S8x4224x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.InProjRun.lean ====
/- The input projection's run: what the body leaves at every grid point, named, and the frame. -/
module

public import proofs.«01_k».proof.Defs
public import proofs.«01_k».proof.Proof.Gen.Kernel2Ideal.Frame
public import proofs.«01_k».proof.Proof.Gen.Kernel2Ideal.Skeleton
public import Idealize.ShloMosaic.Lib.Pipeline.ValueKit
public import Idealize.ShloMosaic.Lib.Claim
public import Idealize.ShloMosaic.Lib.VecWindow

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch, of the grid coordinates. -/
abbrev cond0_0 (i : grid0.Coords) : Prop := k0_cond1 i = 1#1

/-- It holds at the even points. -/
theorem hcond0_0 : ∀ t : Fin cfg0.N, cond0_0 (grid0.coords t) ↔ t.val % 2 = 0 :=
  (fun t => by
    have ht : t.val < 66 := Nat.lt_of_lt_of_eq t.isLt N_0
    have e0 : (grid0.coords t 0).val = t.val / 2 % 33 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- A load of a whole buffer reads what it holds. -/
theorem load_whole {S : Shape} {e : EltTy} {M : Memref sig .tc .vmem S e} (h : M.IsWhole) (X : S.Idx → Elt F e) {off : Fin S.rank → ℕ}
    (inb : ∀ a, off a + S.size a ≤ S.size a) :
    View.readAt (Elt F) M.view (Rect.unit off S.size inb).toLoadRect (h.unread X) = X :=
  (View.readAt_full M.view _ inb).trans (h.read_unread X)

/-- The body at an even point: the rows are normed into the scratch, the dt columns and the first columns are stored. -/
theorem run_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S1024x128 .bf16) (harg5 : arg5.IsWhole)
    (arg6 : Memref sig .tc .vmem S1024x4096 .bf16) (harg6 : arg6.IsWhole) (arg7 : Memref sig .tc .vmem S1024x128 .f32) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1024x4096 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, load_whole harg4]
    unfold run_A.sl.v3 run_A.sl.HS0_1
    rw [View.readCov_full, load_whole harg2, load_whole harg3]
  isplitl [H5]
  · iexists _; isplitr; swap; · iexact H5
    ipureintro
    rw [View.read_writes_full, load_whole harg2, load_whole harg3, load_whole harg5]
  iexists _; isplitr; swap; · iexact HS0
  ipureintro
  unfold run_A.sl.HS0_1
  rw [View.read_writes_full, load_whole harg2, load_whole harg3]

/-- The body at an odd point: the scratch is read, the next columns are stored, the dt columns stay. -/
theorem run_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S1024x128 .bf16) (harg5 : arg5.IsWhole)
    (arg6 : Memref sig .tc .vmem S1024x4096 .bf16) (harg6 : arg6.IsWhole) (arg7 : Memref sig .tc .vmem S1024x128 .f32) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1024x4096 .bf16) (x3 : Vec F S1024x128 .bf16) (x5 : Vec F S1024x128 .f32) (u : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare u
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 u x2) ∗ owns (c : Thread nD τ) arg7 fullShare x5 ∗ owns (c : Thread nD τ) arg8 fullShare u) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, H5, ⟨%fs0, %hfs0, HS0⟩, Hk⟩
  obtain rfl := harg2.eq_unread hf0; obtain rfl := harg3.eq_unread hf1; obtain rfl := harg4.eq_unread hf2; obtain rfl := harg5.eq_unread hf3; obtain rfl := harg8.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, load_whole harg8, load_whole harg4]
  isplitl [H5]
  · iexact H5
  iexists _; isplitr; · ipureintro; exact harg8.read_unread _
  iexact HS0

/-- The block index of every window at a grid point. -/
theorem idx : ∀ t : Fin cfg0.N, win0_0.index t = ![t.val / 2, 0] ∧ win0_1.index t = ![0, 0] ∧ win0_2.index t = ![0, t.val % 2]
    ∧ win0_3.index t = ![0, 0] ∧ win0_4.index t = ![t.val / 2, t.val % 2] ∧ win0_5.index t = ![t.val / 2, 0] ∧ t.val < 66 :=
  (by decide +kernel : ∀ t : Fin grid0.N, _)

/-- Each window's current staging memref at a point, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch: the normed rows. -/
abbrev scM0_0 : Memref sig .tc .vmem S1024x1024 .bf16 := Memref.whole cc0_scratch0

/-- The region's scratch and generator register, the scratch as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The normed rows of point `t`'s block. -/
def U (c : Dev nD) (t : Fin cfg0.N) : Vec F S1024x1024 .bf16 := k0_pay2 (iblk m c 0 t) (iblk m c 1 t)

/-- The dt columns of point `t`'s rows. -/
def dtOut (c : Dev nD) (t : Fin cfg0.N) : Vec F S1024x128 .f32 := k0_pay3 (iblk m c 0 t) (iblk m c 1 t) (iblk m c 3 t)

/-- Two points of the same rows have the same first input block. -/
theorem iblk0_congr (c : Dev nD) (t t' : Fin cfg0.N) (h : t.val / 2 = t'.val / 2) :
    (iblk m c 0 t : Vec F S1024x1024 .f32) = iblk m c 0 t' := by
  funext y
  blk_simp [iblk]
  blk_ext [idx t, idx t', h]

theorem iblk1_congr (c : Dev nD) (t t' : Fin cfg0.N) : (iblk m c 1 t : Vec F S1x1024 .f32) = iblk m c 1 t' := by
  funext y
  blk_simp [iblk]
  blk_ext [idx t, idx t']

theorem iblk3_congr (c : Dev nD) (t t' : Fin cfg0.N) : (iblk m c 3 t : Vec F S1024x128 .bf16) = iblk m c 3 t' := by
  funext y
  blk_simp [iblk]
  blk_ext [idx t, idx t']

/-- The normed rows are the same at the two points of a row block. -/
theorem U_congr (c : Dev nD) (t t' : Fin cfg0.N) (h : t.val / 2 = t'.val / 2) : U m c t = U m c t' :=
  congrArg₂ k0_pay2 (iblk0_congr m c t t' h) (iblk1_congr m c t t')

/-- So are the dt columns. -/
theorem dtOut_congr (c : Dev nD) (t t' : Fin cfg0.N) (h : t.val / 2 = t'.val / 2) : dtOut m c t = dtOut m c t' := by
  unfold dtOut
  exact congr (congrArg₂ k0_pay3 (iblk0_congr m c t t' h) (iblk1_congr m c t t')) (iblk3_congr m c t t')

/-- Between points the scratch holds the normed rows after an even point, and anything after an odd one. -/
def PhiS (c : Dev nD) (n : ℕ) (hn : n ≤ cfg0.N) : sProp 𝕄 :=
  if h : n % 2 = 1 then
    iprop(owns (c : Thread nD τ) scM0_0 fullShare (U m c ⟨n, by have : cfg0.N = 66 := N_0; omega⟩) ∗ (∃ r, prngReg c r))
  else Pipeline.ΦA spec0 c

theorem PhiS_odd (c : Dev nD) (n : ℕ) (hn : n ≤ cfg0.N) (h : n % 2 = 1) : PhiS m c n hn
    = iprop(owns (c : Thread nD τ) scM0_0 fullShare (U m c ⟨n, by have : cfg0.N = 66 := N_0; omega⟩) ∗ (∃ r, prngReg c r)) := dif_pos h

theorem PhiS_even (c : Dev nD) (n : ℕ) (hn : n ≤ cfg0.N) (h : n % 2 = 0) : PhiS m c n hn = Pipeline.ΦA spec0 c :=
  dif_neg (by omega)

/-- What every staging buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (U m c t) (iblk m c 2 t)
    | ⟨5, _⟩ => dtOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay4 (U m c t) (iblk m c 2 t) := by dsimp only [dats]
theorem after0_5 (c : Dev nD) (t : Fin cfg0.N) : (dats m 0 c).after 5 t = dtOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At an odd point the dt buffer still holds what the even point before left. -/
theorem before0_5 (c : Dev nD) (t : Fin cfg0.N) (h : ¬ t.val % 2 = 0) (d) : (dats m 0 c).before 5 t d = dtOut m c t := by
  have ht : t.val ≠ 0 := fun h0 => h (by rw [h0])
  have hfl : (cfg0.win 5).flush ⟨t.val - 1, Nat.lt_of_le_of_lt (Nat.sub_le _ _) t.isLt⟩ = false :=
    Bool.eq_false_iff.mpr fun hf => by
      have := (flush0_5 ⟨t.val - 1, Nat.lt_of_le_of_lt (Nat.sub_le _ _) t.isLt⟩).mp hf
      change (t.val - 1) % 2 = 1 at this
      omega
  have hlive : cfg0.idle 5 (cfg0.grid.coords ⟨t.val - 1, Nat.lt_of_le_of_lt (Nat.sub_le _ _) t.isLt⟩) = false := by
    have := (hcond0_0 ⟨t.val - 1, Nat.lt_of_le_of_lt (Nat.sub_le _ _) t.isLt⟩).mpr (by show (t.val - 1) % 2 = 0; omega)
    show (!(k0_cond1 (grid0.coords _) == 1#1)) = false
    rw [show k0_cond1 (grid0.coords ⟨t.val - 1, _⟩) = 1#1 from this]; rfl
  rw [(dats m 0 c).before_of_pos 5 t ht ((cfg0.win 5).fetch_out rfl t), hfl, if_neg Bool.false_ne_true]
  unfold Dat.left
  rw [hlive]
  show (dats m 0 c).kept 5 _ d = _
  unfold Dat.kept
  rw [Pipeline.fill_of_clip_none 5 _ (fun _ => rfl) d ((dats m 0 c).after 5 _), Window.fill_cut, after0_5]
  exact dtOut_congr m c _ _ (by show (t.val - 1) / 2 = t.val / 2; omega)

/-- The invariant at a point, by name. -/
theorem Phi_eq (c : Dev nD) (t : Fin (cfg0.N + 1)) : (dats m 0 c).Φ t = PhiS m c t.val (Nat.le_of_lt_succ t.isLt) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point takes what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [Phi_eq m c t.succ, Phi_eq m c t.castSucc]
  have hN : t.val < 66 := lt_of_lt_of_eq t.isLt (show cfg0.N = 66 from N_0)
  by_cases h0 : t.val % 2 = 0
  · rw [PhiS_even m c t.castSucc.val _ h0, PhiS_odd m c t.succ.val _ (by rw [Fin.val_succ]; omega), PhiA0_eq,
      U_congr m c ⟨t.succ.val, _⟩ t (by show (t.val + 1) / 2 = t.val / 2; omega)]
    unfold U dtOut
    iintro ⟨⟨HS0, Hg⟩, Ho, ⟨%d0, H0⟩, ⟨%d1, H1⟩, ⟨%d2, H2⟩, ⟨%d3, H3⟩, ⟨%d4, H4⟩, ⟨%d5, H5⟩⟩
    iapply (run_A c (grid0.coords t) _ _ _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before0_5 m c t h0]
    rw [PhiS_odd m c t.castSucc.val _ (by rw [Fin.val_castSucc]; omega), PhiS_even m c t.succ.val _ (by rw [Fin.val_succ]; omega), PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply (run_B c (grid0.coords t) _ _ _ _ _ _ _ _ _ _ _ _ _ _ (fun h => h0 ((hcond0_0 t).mp h)) (iblk m c 0 t) (iblk m c 1 t) (iblk m c 2 t) (iblk m c 3 t) (dtOut m c t) (U m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 Hg]
    · isplitl [HS0]
      · iexists _; iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The dt block is stored at a point or written back there. -/
theorem idle_or_flush (t : Fin cfg0.N) : idle0 5 (grid0.coords t) = false
    ∨ (idle0 5 (grid0.coords t) = true ∧ (win0 5).flush t = true) := by
  by_cases h : t.val % 2 = 0
  · refine .inl ?_
    have := (hcond0_0 t).mpr h
    show (!(k0_cond1 (grid0.coords t) == 1#1)) = false
    rw [show k0_cond1 (grid0.coords t) = 1#1 from this]; rfl
  · cases hi : idle0 5 (grid0.coords t)
    · exact .inl rfl
    · exact .inr ⟨rfl, (flush0_5 t).mpr (by omega)⟩

theorem body_obligation (c : Dev nD) : BodyObligation (dats (F := F) m 0 c) (defs₀ (F := F)) Variants.none () Set.univ := fun t => by
  rw [bigSep_W0, bigSep_W0, defs₀_row]
  rcases idle_or_flush t with hi | ⟨hi, hf⟩
  · simp only [hi]
    exact triple_restated (sound_body m c t) rfl .rfl fun _ => .rfl
  · simp only [hi, hf]
    exact triple_restated (sound_body m c t) rfl .rfl fun _ => .rfl

theorem hin (c : Dev nD) : Pipeline.ΦA spec0 c ⊢ (dats m 0 c).Φ 0 := by
  rw [Phi_eq, PhiS_even m c _ _ (by rw [Fin.val_zero])]
  try exact Idealize.SL.BI.Entails.refl _

theorem hout (c : Dev nD) : (dats m 0 c).Φ (Fin.last cfg0.N) ⊢ Pipeline.ΦA spec0 c := by
  rw [Phi_eq, PhiS_even m c (Fin.last cfg0.N).val _ ((congrArg (· % 2) (N_0 : cfg0.N = 66)).trans rfl)]
  try exact Idealize.SL.BI.Entails.refl _

set_option backward.isDefEq.respectTransparency.types false in
/-- Every fair execution ends with every array at what the points wrote, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with the two arrays it leaves named, the arguments unchanged. -/
theorem run_blocks : θ_run defs (onTc (τ := τ) (main (F := F))) ⟨m, fun _ => 0, ρ⟩ fun r => ∀ c : Dev nD,
      r.2.mem ((c.tc : Thread nD τ).loc main_v9_0) = (dats m 0 c).arrAt 4 (cfgs 0).N
      ∧ r.2.mem ((c.tc : Thread nD τ).loc main_v9_1) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 4, (h.1 c).1 5, h.2 c⟩)
    (θ_run_and (run_main m ρ) (frame_of m ρ (dats m) (A_eq m) (run_main m ρ)))

end Cert.InProj

end
-- ==== Proof.InProj.lean ====
/- The first norm of a layer and the input projection: the arrays the call leaves are the reference's. -/
module

public import proofs.«01_k».proof.Defs
public import proofs.«01_k».proof.Proof.InProjRun
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj.Ref
open Cert.Reference2Ideal Cert.Reference2Ideal.Gen

/-- The reference's first result, the columns but dt, as one term of its three arguments. -/
def MAIN (x0 : FVec Ideal S8x4224x1024 .f32) (x1 : FVec Ideal S1024 .f32) (x2 : FVec Ideal S1024x8208 .f32) : FVec Ideal S33792x8192 .bf16 :=
  shapeCast S33792x8192 (truncf .bf16 (concatenate S8x4224x8192 2 [⟨S8x4224x3072, (extractStridedSlice S8x4224x3072 ![0, 0, 0] (Host.dotGeneral dot_S8x4224x1024_S1024x8208_S8x4224x8208_2_0_01_1_n_n none (mulf (mulf x0 (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x0 x0) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 x1))) x2) slices_S8x4224x8208_S8x4224x3072_0_0_0)⟩, ⟨S8x4224x5120, (extractStridedSlice S8x4224x5120 ![0, 0, 3088] (Host.dotGeneral dot_S8x4224x1024_S1024x8208_S8x4224x8208_2_0_01_1_n_n none (mulf (mulf x0 (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x0 x0) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 x1))) x2) slices_S8x4224x8208_S8x4224x5120_0_0_3088)⟩] concatenates_S8x4224x3072_S8x4224x5120_S8x4224x8192_d2) bitsLt_bf16_f32) shapeCasts_S8x4224x8192_S33792x8192

/-- The reference's projection of the normed rows. -/
def PROJ (x0 : FVec Ideal S8x4224x1024 .f32) (x1 : FVec Ideal S1024 .f32) (x2 : FVec Ideal S1024x8208 .f32) : FVec Ideal S8x4224x8208 .f32 :=
  Host.dotGeneral dot_S8x4224x1024_S1024x8208_S8x4224x8208_2_0_01_1_n_n none (mulf (mulf x0 (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x0 x0) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 x1))) x2

/-- The reference's second result, the columns of dt, as one term of its three arguments. -/
def DT (x0 : FVec Ideal S8x4224x1024 .f32) (x1 : FVec Ideal S1024 .f32) (x2 : FVec Ideal S1024x8208 .f32) : FVec Ideal S33792x128 .f32 :=
  shapeCast S33792x128 (pad S8x4224x128 ![0, 0, 0] ![0, 0, 112] ![0, 0, 0] (extractStridedSlice S8x4224x16 ![0, 0, 3072] (PROJ x0 x1 x2) slices_S8x4224x8208_S8x4224x16_0_0_3072) (sitofp .f32 (constantI S_ 32 0#32)) pads_S8x4224x16_S8x4224x128_000_000_01120 h_S_) shapeCasts_S8x4224x128_S33792x128

/-- One entry of a row of 1024 divided by the row's root mean square and scaled by a gain. -/
def nrm (row : Fin 1024 → EReal) (x g : EReal) : EReal :=
  x * Ideal.rsqrt (Ideal.div (∑ k : Fin 1024, row k * row k) (Scalar.ofBits (F := Ideal) .f32 0x44800000#32) + Scalar.ofBits (F := Ideal) .f32 0x358637BD#32) * g

theorem nrm_congr {r r' : Fin 1024 → EReal} {x x' g g' : EReal} (hr : ∀ k, r k = r' k) (hx : x = x') (hg : g = g') :
    nrm r x g = nrm r' x' g' := by
  rw [funext hr, hx, hg]

/-- The first result at a column before dt's. -/
theorem MAIN_at (x0 : FVec Ideal S8x4224x1024 .f32) (x1 : FVec Ideal S1024 .f32) (x2 : FVec Ideal S1024x8208 .f32) (y : S33792x8192.Idx) :
    MAIN x0 x1 x2 y = if h : (y 1).val < 3072 then ∑ k : Fin 1024, nrm (fun l => x0 (ix3 ⟨(y 0).val / 4224, by have := (y 0).isLt; change _ < 33792 at this; omega⟩ ⟨(y 0).val % 4224, Nat.mod_lt _ (by decide)⟩ l)) (x0 (ix3 ⟨(y 0).val / 4224, by have := (y 0).isLt; change _ < 33792 at this; omega⟩ ⟨(y 0).val % 4224, Nat.mod_lt _ (by decide)⟩ k)) (x1 (ix1 k)) * x2 (ix2 k ⟨(y 1).val, by omega⟩)
      else ∑ k : Fin 1024, nrm (fun l => x0 (ix3 ⟨(y 0).val / 4224, by have := (y 0).isLt; change _ < 33792 at this; omega⟩ ⟨(y 0).val % 4224, Nat.mod_lt _ (by decide)⟩ l)) (x0 (ix3 ⟨(y 0).val / 4224, by have := (y 0).isLt; change _ < 33792 at this; omega⟩ ⟨(y 0).val % 4224, Nat.mod_lt _ (by decide)⟩ k)) (x1 (ix1 k)) * x2 (ix2 k ⟨3088 + ((y 1).val - 3072), by have := (y 1).isLt; change _ < 8192 at this; omega⟩) := by
  idx_vars y
  pointwise [MAIN, nrm]

/-- The integer zero as a float is zero. -/
theorem zero_word : (FloatOps.sitofp (F := Ideal) FTy.f32 0#32) = (0 : EReal) := by
  show ((((0#32 : BitVec 32).toInt : ℤ) : ℝ) : EReal) = 0
  norm_num

/-- The projection at one place. -/
theorem PROJ_at (x0 : FVec Ideal S8x4224x1024 .f32) (x1 : FVec Ideal S1024 .f32) (x2 : FVec Ideal S1024x8208 .f32) (b : Fin 8) (n : Fin 4224) (j : Fin 8208) :
    PROJ x0 x1 x2 (ix3 b n j) = ∑ k : Fin 1024, nrm (fun l => x0 (ix3 b n l)) (x0 (ix3 b n k)) (x1 (ix1 k)) * x2 (ix2 k j) := by
  pointwise [PROJ, nrm]

/-- Sixteen columns put in 128 lanes, the others zero. -/
theorem pad_at (W : FVec Ideal S8x4224x16 .f32) (b : Fin 8) (n : Fin 4224) (j : Fin 128) :
    pad S8x4224x128 ![0, 0, 0] ![0, 0, 112] ![0, 0, 0] W (sitofp (F := Ideal) .f32 (constantI S_ 32 0#32)) pads_S8x4224x16_S8x4224x128_000_000_01120 h_S_ (ix3 b n j)
      = if h : j.val < 16 then W (ix3 b n ⟨j.val, h⟩) else (0 : EReal) := by
  pointwise
  by_cases h : j.val < 16
  · rw [dif_pos h, dif_pos h]
  · rw [dif_neg h, dif_neg h]
    exact zero_word

/-- The stacked rows in their flattened order. -/
theorem flat_at (W : FVec Ideal S8x4224x128 .f32) (y : S33792x128.Idx) :
    shapeCast S33792x128 W shapeCasts_S8x4224x128_S33792x128 y
      = W (ix3 ⟨(y 0).val / 4224, by have := (y 0).isLt; change _ < 33792 at this; omega⟩ ⟨(y 0).val % 4224, Nat.mod_lt _ (by decide)⟩ (y 1)) := by
  idx_vars y
  pointwise

/-- The columns of dt. -/
theorem slice_at (W : FVec Ideal S8x4224x8208 .f32) (b : Fin 8) (n : Fin 4224) (j : Fin 16) :
    extractStridedSlice S8x4224x16 ![0, 0, 3072] W slices_S8x4224x8208_S8x4224x16_0_0_3072 (ix3 b n j) = W (ix3 b n ⟨3072 + j.val, by omega⟩) := by
  pointwise

/-- The second result: dt's columns, and nothing in the other lanes. -/
theorem DT_at (x0 : FVec Ideal S8x4224x1024 .f32) (x1 : FVec Ideal S1024 .f32) (x2 : FVec Ideal S1024x8208 .f32) (y : S33792x128.Idx) :
    DT x0 x1 x2 y = if h : (y 1).val < 16 then ∑ k : Fin 1024, nrm (fun l => x0 (ix3 ⟨(y 0).val / 4224, by have := (y 0).isLt; change _ < 33792 at this; omega⟩ ⟨(y 0).val % 4224, Nat.mod_lt _ (by decide)⟩ l)) (x0 (ix3 ⟨(y 0).val / 4224, by have := (y 0).isLt; change _ < 33792 at this; omega⟩ ⟨(y 0).val % 4224, Nat.mod_lt _ (by decide)⟩ k)) (x1 (ix1 k)) * x2 (ix2 k ⟨3072 + (y 1).val, by omega⟩) else (0 : EReal) := by
  refine (flat_at _ y).trans ((pad_at _ _ _ _).trans ?_)
  by_cases h : (y 1).val < 16
  · rw [dif_pos h, dif_pos h]
    exact (slice_at _ _ _ _).trans (PROJ_at _ _ _ _ _ _)
  · rw [dif_neg h, dif_neg h]

end Cert.InProj.Ref

namespace Cert.InProj
open Cert.Kernel2Ideal Cert.Kernel2Ideal.Gen
open Cert.InProj.Ref (MAIN MAIN_at DT DT_at nrm nrm_congr zero_word)
variable (m : (ℓ : Loc nD τ sig) → Buf (Elt Ideal) ℓ)

/-- The rows of a stacked array lie in the order of its flattened rows: the batch and the token of row `r`. -/
def bt (r : Fin 33792) : Fin 8 × Fin 4224 := (⟨r.val / 4224, by omega⟩, ⟨r.val % 4224, Nat.mod_lt _ (by decide)⟩)

/-- The residual stream as the call takes it. -/
theorem V7_at (c : Dev nD) (i : S33792x1024.Idx) : V m c main_v7 i = m ((c : Thread nD τ).loc main_arg0) (ix3 (bt (i 0)).1 (bt (i 0)).2 (i 1)) := by
  simp only [V, hostOps0, hostOps0_1, hostOps0_2, List.flatten_cons, List.flatten_nil, List.append_nil, List.cons_append, List.nil_append]
  after_results
  idx_vars i
  pointwise [bt]

/-- The gain as the call takes it. -/
theorem V8_at (c : Dev nD) (i : S1x1024.Idx) : V m c main_v8 i = m ((c : Thread nD τ).loc main_arg1) (ix1 (i 1)) := by
  simp only [V, hostOps0, hostOps0_1, hostOps0_2, List.flatten_cons, List.flatten_nil, List.append_nil, List.cons_append, List.nil_append]
  after_results
  idx_vars i
  pointwise

/-- The weight's columns but dt's as the call takes them. -/
theorem V3_at (c : Dev nD) (i : S1024x8192.Idx) : V m c main_v3 i
    = if h : (i 1).val < 3072 then m ((c : Thread nD τ).loc main_arg2) (ix2 (i 0) ⟨(i 1).val, by omega⟩)
      else m ((c : Thread nD τ).loc main_arg2) (ix2 (i 0) ⟨3088 + ((i 1).val - 3072), by have := (i 1).isLt; change _ < 8192 at this; omega⟩) := by
  simp only [V, hostOps0, hostOps0_1, hostOps0_2, List.flatten_cons, List.flatten_nil, List.append_nil, List.cons_append, List.nil_append]
  after_results
  idx_vars i
  pointwise

/-- Sixteen columns of a matrix put in 128 lanes, the others zero. -/
theorem lanes_at (W : FVec Ideal S1024x8208 .f32) (i : S1024x128.Idx) :
    truncf (F := Ideal) .bf16 (pad S1024x128 ![0, 0] ![0, 112] ![0, 0] (extractStridedSlice S1024x16 ![0, 3072] W slices_S1024x8208_S1024x16_0_3072)
      (sitofp (F := Ideal) .f32 (constantI S_ 32 0#32)) pads_S1024x16_S1024x128_000_01120 h_S_) bitsLt_bf16_f32 i
      = if h : (i 1).val < 16 then W (ix2 (i 0) ⟨3072 + (i 1).val, by omega⟩) else (0 : EReal) := by
  idx_vars i
  pointwise
  by_cases h : i1.val < 16
  · rw [dif_pos h, dif_pos h]
  · rw [dif_neg h, dif_neg h]
    exact zero_word

/-- The weight's columns of dt as the call takes them, in 128 lanes. -/
theorem V6_at (c : Dev nD) (i : S1024x128.Idx) : V m c main_v6 i
    = if h : (i 1).val < 16 then m ((c : Thread nD τ).loc main_arg2) (ix2 (i 0) ⟨3072 + (i 1).val, by omega⟩) else (0 : EReal) := by
  simp only [V, hostOps0, hostOps0_1, hostOps0_2, List.flatten_cons, List.flatten_nil, List.append_nil, List.cons_append, List.nil_append]
  after_results
  exact lanes_at _ i

/-- The normed rows at one place. -/
theorem pay1_at (x0 : FVec Ideal S1024x1024 .f32) (x1 : FVec Ideal S1x1024 .f32) (y : S1024x1024.Idx) :
    k0_pay1 (F := Ideal) x0 x1 y = nrm (fun l => x0 (ix2 (y 0) l)) (x0 (ix2 (y 0) (y 1))) (x1 (ix2 0 (y 1))) := by
  idx_vars y
  pointwise [k0_pay1, nrm]

/-- The projection's block at one place. -/
theorem pay4_at (x0 : FVec Ideal S1024x1024 .f32) (x1 : FVec Ideal S1x1024 .f32) (x2 : FVec Ideal S1024x4096 .bf16) (y : S1024x4096.Idx) :
    k0_pay4 (F := Ideal) (k0_pay2 (F := Ideal) x0 x1) x2 y
      = ∑ k : Fin 1024, nrm (fun l => x0 (ix2 (y 0) l)) (x0 (ix2 (y 0) k)) (x1 (ix2 0 k)) * x2 (ix2 k (y 1)) := by
  idx_vars y
  pointwise [k0_pay4, k0_pay2, k0_pay1, nrm]

/-- The block of dt at one place. -/
theorem pay3_at (x0 : FVec Ideal S1024x1024 .f32) (x1 : FVec Ideal S1x1024 .f32) (x2 : FVec Ideal S1024x128 .bf16) (y : S1024x128.Idx) :
    k0_pay3 (F := Ideal) x0 x1 x2 y
      = ∑ k : Fin 1024, nrm (fun l => x0 (ix2 (y 0) l)) (x0 (ix2 (y 0) k)) (x1 (ix2 0 k)) * x2 (ix2 k (y 1)) := by
  idx_vars y
  pointwise [k0_pay3, k0_pay1, nrm]

/-- The rows' block: 1024 flattened rows of the residual stream. -/
theorem X0_at (c : Dev nD) (t : Fin cfg0.N) (j : S1024x1024.Idx) (r : Fin 33792) (hr : r.val = t.val / 2 * 1024 + (j 0).val) :
    (iblk m c 0 t : Vec Ideal S1024x1024 .f32) j = m ((c : Thread nD τ).loc main_arg0) (ix3 (bt r).1 (bt r).2 (j 1)) := by
  obtain rfl : r = ⟨t.val / 2 * 1024 + (j 0).val, by have := (idx t).2.2.2.2.2.2; have := (j 0).isLt; change _ < 1024 at this; clear hr; omega⟩ := Fin.ext hr
  clear hr
  blk_simp [iblk, idx t]
  exact (V7_at m c _).trans (by blk_ext [bt, idx t])

/-- The gain's block. -/
theorem X1_at (c : Dev nD) (t : Fin cfg0.N) (j : S1x1024.Idx) : (iblk m c 1 t : Vec Ideal S1x1024 .f32) j = m ((c : Thread nD τ).loc main_arg1) (ix1 (j 1)) := by
  blk_simp [iblk, idx t]
  exact (V8_at m c _).trans (by blk_ext [idx t])

/-- The weight's block of 4096 columns. -/
theorem X2_at (c : Dev nD) (t : Fin cfg0.N) (j : S1024x4096.Idx) (r : Fin 8192) (hr : r.val = t.val % 2 * 4096 + (j 1).val) :
    (iblk m c 2 t : Vec Ideal S1024x4096 .bf16) j = V m c main_v3 (ix2 (j 0) r) := by
  obtain rfl : r = ⟨t.val % 2 * 4096 + (j 1).val, by have := (j 1).isLt; change _ < 4096 at this; clear hr; omega⟩ := Fin.ext hr
  clear hr
  blk_simp [iblk, idx t]
  blk_ext [idx t]

/-- The weight's block of dt's columns. -/
theorem X3_at (c : Dev nD) (t : Fin cfg0.N) (j : S1024x128.Idx) : (iblk m c 3 t : Vec Ideal S1024x128 .bf16) j = V m c main_v6 j := by
  blk_simp [iblk, idx t]
  blk_ext [idx t]

/-- A place of the projection's block is the reference's value where the array puts it. -/
theorem point4 (c : Dev nD) (t : Fin cfg0.N) (y : S1024x4096.Idx) (i : S33792x8192.Idx)
    (h0 : (i 0).val = t.val / 2 * 1024 + (y 0).val) (h1 : (i 1).val = t.val % 2 * 4096 + (y 1).val) :
    k0_pay4 (F := Ideal) (k0_pay2 (F := Ideal) (iblk m c 0 t) (iblk m c 1 t)) (iblk m c 2 t) y
      = MAIN (m ((c : Thread nD τ).loc main_arg0)) (m ((c : Thread nD τ).loc main_arg1)) (m ((c : Thread nD τ).loc main_arg2)) i := by
  rw [MAIN_at]
  refine (pay4_at _ _ _ y).trans ?_
  have hN : ∀ k : Fin 1024, nrm (fun l => (iblk m c 0 t : Vec Ideal S1024x1024 .f32) (ix2 (y 0) l)) ((iblk m c 0 t : Vec Ideal S1024x1024 .f32) (ix2 (y 0) k)) ((iblk m c 1 t : Vec Ideal S1x1024 .f32) (ix2 0 k))
      = nrm (fun l => m ((c : Thread nD τ).loc main_arg0) (ix3 (bt (i 0)).1 (bt (i 0)).2 l)) (m ((c : Thread nD τ).loc main_arg0) (ix3 (bt (i 0)).1 (bt (i 0)).2 k)) (m ((c : Thread nD τ).loc main_arg1) (ix1 k)) := fun k => by
    have hr : ∀ l : Fin 1024, (iblk m c 0 t : Vec Ideal S1024x1024 .f32) (ix2 (y 0) l) = m ((c : Thread nD τ).loc main_arg0) (ix3 (bt (i 0)).1 (bt (i 0)).2 l) := fun l =>
      X0_at m c t (ix2 (y 0) l) (i 0) h0
    exact nrm_congr hr (hr k) (X1_at m c t _)
  have hw : ∀ k : Fin 1024, (iblk m c 2 t : Vec Ideal S1024x4096 .bf16) (ix2 k (y 1)) = V m c main_v3 (ix2 k (i 1)) := fun k =>
    X2_at m c t (ix2 k (y 1)) (i 1) h1
  by_cases h : (i 1).val < 3072
  · rw [dif_pos h]
    exact Finset.sum_congr rfl fun k _ => congrArg₂ (· * ·) (hN k) ((hw k).trans ((V3_at m c _).trans (dif_pos h)))
  · rw [dif_neg h]
    exact Finset.sum_congr rfl fun k _ => congrArg₂ (· * ·) (hN k) ((hw k).trans ((V3_at m c _).trans (dif_neg h)))

/-- A place of dt's block is the reference's value where the array puts it. -/
theorem point5 (c : Dev nD) (t : Fin cfg0.N) (y : S1024x128.Idx) (i : S33792x128.Idx)
    (h0 : (i 0).val = t.val / 2 * 1024 + (y 0).val) (h1 : (i 1).val = (y 1).val) :
    k0_pay3 (F := Ideal) (iblk m c 0 t) (iblk m c 1 t) (iblk m c 3 t) y
      = DT (m ((c : Thread nD τ).loc main_arg0)) (m ((c : Thread nD τ).loc main_arg1)) (m ((c : Thread nD τ).loc main_arg2)) i := by
  rw [DT_at]
  refine (pay3_at _ _ _ y).trans ?_
  have hN : ∀ k : Fin 1024, nrm (fun l => (iblk m c 0 t : Vec Ideal S1024x1024 .f32) (ix2 (y 0) l)) ((iblk m c 0 t : Vec Ideal S1024x1024 .f32) (ix2 (y 0) k)) ((iblk m c 1 t : Vec Ideal S1x1024 .f32) (ix2 0 k))
      = nrm (fun l => m ((c : Thread nD τ).loc main_arg0) (ix3 (bt (i 0)).1 (bt (i 0)).2 l)) (m ((c : Thread nD τ).loc main_arg0) (ix3 (bt (i 0)).1 (bt (i 0)).2 k)) (m ((c : Thread nD τ).loc main_arg1) (ix1 k)) := fun k => by
    have hr : ∀ l : Fin 1024, (iblk m c 0 t : Vec Ideal S1024x1024 .f32) (ix2 (y 0) l) = m ((c : Thread nD τ).loc main_arg0) (ix3 (bt (i 0)).1 (bt (i 0)).2 l) := fun l =>
      X0_at m c t (ix2 (y 0) l) (i 0) h0
    exact nrm_congr hr (hr k) (X1_at m c t _)
  have hw : ∀ k : Fin 1024, (iblk m c 3 t : Vec Ideal S1024x128 .bf16) (ix2 k (y 1)) = V m c main_v6 (ix2 k (i 1)) := fun k =>
    (X3_at m c t _).trans (congrArg (fun j : Fin 128 => V m c main_v6 (ix2 k j)) (Fin.ext h1.symm))
  by_cases h : (i 1).val < 16
  · rw [dif_pos h]
    exact Finset.sum_congr rfl fun k _ => congrArg₂ (· * ·) (hN k) ((hw k).trans ((V6_at m c _).trans (dif_pos h)))
  · rw [dif_neg h]
    refine Finset.sum_eq_zero fun k _ => ?_
    rw [show (iblk m c 3 t : Vec Ideal S1024x128 .bf16) (ix2 k (y 1)) = (0 : EReal) from (hw k).trans ((V6_at m c _).trans (dif_neg h))]
    exact mul_zero _

/-- The first array the call leaves is the reference's term of the arguments. -/
theorem final4 (c : Dev nD) : (dats m 0 c).arrAt 4 (cfgs 0).N
    = MAIN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y _ (by blk_simp [idx t]) (by blk_simp [idx t])

/-- The second array the call leaves is the reference's term of the arguments. -/
theorem final5 (c : Dev nD) : (dats m 0 c).arrAt 5 (cfgs 0).N
    = DT (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y _ (by blk_simp [idx t]) (by blk_simp [idx t])

end Cert.InProj

end
-- ==== Proof.Merge.lean ====
/- The gated merge of the two branches: the array the call leaves is the reference's. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge.Ref
open Cert.Reference3Ideal Cert.Reference3Ideal.Gen

/-- The reference's result as one term of its seven arguments. -/
def REF (x0 x1 x2 : FVec Ideal S8x4224x1024 .f32) (x3 : FVec Ideal S8x4224x8208 .f32)
    (x4 x5 x6 : FVec Ideal S1024x1024 .f32) : FVec Ideal S33792x1024 .f32 :=
  shapeCast S33792x1024 (addf x0 (Host.dotGeneral dot_S8x4224x1024_S1024x1024_S8x4224x1024_2_0_01_1_n_n none (addf (mulf (Host.divf (broadcastInDim S8x4224x1024 ![] bcast_S_S8x4224x1024 (constant S_ .f32 0x3F800000#32)) (addf (broadcastInDim S8x4224x1024 ![] bcast_S_S8x4224x1024 (constant S_ .f32 0x3F800000#32)) (Host.exp (Host.negf (extractStridedSlice S8x4224x1024 ![0, 0, 6160] x3 slices_S8x4224x8208_S8x4224x1024_0_0_6160))))) (Host.dotGeneral dot_S8x4224x1024_S1024x1024_S8x4224x1024_2_0_01_1_n_n none x1 x4)) (mulf (Host.divf (broadcastInDim S8x4224x1024 ![] bcast_S_S8x4224x1024 (constant S_ .f32 0x3F800000#32)) (addf (broadcastInDim S8x4224x1024 ![] bcast_S_S8x4224x1024 (constant S_ .f32 0x3F800000#32)) (Host.exp (Host.negf (extractStridedSlice S8x4224x1024 ![0, 0, 7184] x3 slices_S8x4224x8208_S8x4224x1024_0_0_7184))))) (Host.dotGeneral dot_S8x4224x1024_S1024x1024_S8x4224x1024_2_0_01_1_n_n none x2 x5))) x6)) shapeCasts_S8x4224x1024_S33792x1024

/-- The reference's term, read at one place. -/
theorem REF_at (x0 x1 x2 : FVec Ideal S8x4224x1024 .f32) (x3 : FVec Ideal S8x4224x8208 .f32)
    (x4 x5 x6 : FVec Ideal S1024x1024 .f32) (y : S33792x1024.Idx) :
    REF x0 x1 x2 x3 x4 x5 x6 y
      = x0 (ix3 ⟨(y 0).val / 4224, by have := (y 0).isLt; change _ < 33792 at this; omega⟩ ⟨(y 0).val % 4224, Nat.mod_lt _ (by decide)⟩ (y 1))
        + ∑ x : Fin 1024, (Ideal.div 1 (1 + Ideal.exp (-x3 (ix3 ⟨(y 0).val / 4224, by have := (y 0).isLt; change _ < 33792 at this; omega⟩ ⟨(y 0).val % 4224, Nat.mod_lt _ (by decide)⟩ ⟨6160 + x.val, by omega⟩)))
            * ∑ k : Fin 1024, x1 (ix3 ⟨(y 0).val / 4224, by have := (y 0).isLt; change _ < 33792 at this; omega⟩ ⟨(y 0).val % 4224, Nat.mod_lt _ (by decide)⟩ k) * x4 (ix2 k x)
          + Ideal.div 1 (1 + Ideal.exp (-x3 (ix3 ⟨(y 0).val / 4224, by have := (y 0).isLt; change _ < 33792 at this; omega⟩ ⟨(y 0).val % 4224, Nat.mod_lt _ (by decide)⟩ ⟨7184 + x.val, by omega⟩)))
            * ∑ k : Fin 1024, x2 (ix3 ⟨(y 0).val / 4224, by have := (y 0).isLt; change _ < 33792 at this; omega⟩ ⟨(y 0).val % 4224, Nat.mod_lt _ (by decide)⟩ k) * x5 (ix2 k x)) * x6 (ix2 x (y 1)) := by
  idx_vars y
  pointwise [REF]

end Cert.Merge.Ref

namespace Cert.Merge
open Cert.Kernel3Ideal Cert.Kernel3Ideal.Gen
open Cert.Merge.Ref (REF REF_at)
variable (m : (ℓ : Loc nD τ sig) → Buf (Elt Ideal) ℓ)

/-- The block index of every window at a grid point. -/
theorem idx : ∀ t : Fin cfg0.N, win0_0.index t = ![t.val, 0] ∧ win0_1.index t = ![t.val, 0] ∧ win0_2.index t = ![t.val, 0]
    ∧ win0_3.index t = ![t.val, 6] ∧ win0_4.index t = ![t.val, 7] ∧ win0_5.index t = ![0, 0] ∧ win0_6.index t = ![0, 0]
    ∧ win0_7.index t = ![0, 0] ∧ win0_8.index t = ![t.val, 0] ∧ t.val < 44 :=
  (by decide +kernel : ∀ t : Fin grid0.N, _)

/-- The rows of a stacked array lie in the order of its flattened rows: the batch and the token of row `r`. -/
def bt (r : Fin 33792) : Fin 8 × Fin 4224 := (⟨r.val / 4224, by omega⟩, ⟨r.val % 4224, Nat.mod_lt _ (by decide)⟩)

/-- The residual stream as the call takes it. -/
theorem V4_at (c : Dev nD) (i : S33792x1024.Idx) : V m c main_v4 i = m ((c : Thread nD τ).loc main_arg0) (ix3 (bt (i 0)).1 (bt (i 0)).2 (i 1)) := by
  entry_read
  idx_vars i
  pointwise [bt]

/-- The recurrence branch as the call takes it. -/
theorem V6_at (c : Dev nD) (i : S33792x1024.Idx) : V m c main_v6 i = m ((c : Thread nD τ).loc main_arg1) (ix3 (bt (i 0)).1 (bt (i 0)).2 (i 1)) := by
  entry_read
  idx_vars i
  pointwise [bt]

/-- The attention branch as the call takes it. -/
theorem V8_at (c : Dev nD) (i : S33792x1024.Idx) : V m c main_v8 i = m ((c : Thread nD τ).loc main_arg2) (ix3 (bt (i 0)).1 (bt (i 0)).2 (i 1)) := by
  entry_read
  idx_vars i
  pointwise [bt]

/-- The projection's columns after the sixteen of dt, as the call takes them. -/
theorem V9_at (c : Dev nD) (i : S33792x8192.Idx) (h : 3072 ≤ (i 1).val) : V m c main_v9 i
    = m ((c : Thread nD τ).loc main_arg3) (ix3 (bt (i 0)).1 (bt (i 0)).2 ⟨(i 1).val + 16, by have := (i 1).isLt; change _ < 8192 at this; omega⟩) := by
  entry_read
  idx_vars i
  pointwise [bt]
  rw [dif_neg (by change 3072 ≤ i1.val at h; omega)]
  exact congrArg _ ((ix3_inj ..).2 ⟨rfl, rfl, Fin.ext (by change 3072 ≤ i1.val at h; show 3088 + (i1.val - 3072) = i1.val + 16; omega)⟩)

/-- The recurrence branch's weight as the call takes it. -/
theorem V10_at (c : Dev nD) (i : S1024x1024.Idx) : V m c main_v10 i = m ((c : Thread nD τ).loc main_arg4) i := by
  entry_read
  idx_vars i
  pointwise

/-- The attention branch's weight as the call takes it. -/
theorem V11_at (c : Dev nD) (i : S1024x1024.Idx) : V m c main_v11 i = m ((c : Thread nD τ).loc main_arg5) i := by
  entry_read
  idx_vars i
  pointwise

/-- The output weight as the call takes it. -/
theorem V12_at (c : Dev nD) (i : S1024x1024.Idx) : V m c main_v12 i = m ((c : Thread nD τ).loc main_arg6) i := by
  entry_read
  idx_vars i
  pointwise

/-- What the body computes of the blocks it loads, at one place. -/
theorem pay_at (x0 : FVec Ideal S768x1024 .f32) (x1 x2 x3 x4 : FVec Ideal S768x1024 .bf16) (x5 x6 x7 : FVec Ideal S1024x1024 .bf16)
    (y : S768x1024.Idx) : k0_pay1 (F := Ideal) (k0_pay2 x0) (k0_pay3 x1 x5 x2 x6 x3 x4) x7 y
      = x0 y + ∑ x : Fin 1024, (Ideal.div 1 (1 + Ideal.exp (-x3 (ix2 (y 0) x))) * ∑ k : Fin 1024, x1 (ix2 (y 0) k) * x5 (ix2 k x)
          + Ideal.div 1 (1 + Ideal.exp (-x4 (ix2 (y 0) x))) * ∑ k : Fin 1024, x2 (ix2 (y 0) k) * x6 (ix2 k x)) * x7 (ix2 x (y 1)) := by
  idx_vars y
  pointwise [k0_pay1, k0_pay2, k0_pay3]
  simp only [zero_sub]

set_option maxHeartbeats 400000 in
/-- What the call stores at a place of a block is the reference's value at the place of the array the block puts it. -/
theorem point (c : Dev nD) (t : Fin cfg0.N) (y) :
    k0_pay1 (k0_pay2 (iblk m c 0 t)) (k0_pay3 (iblk m c 1 t) (iblk m c 5 t) (iblk m c 2 t) (iblk m c 6 t) (iblk m c 3 t) (iblk m c 4 t)) (iblk m c 7 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 8).blk t).view.emb y) := by
  refine (pay_at _ _ _ _ _ _ _ _ y).trans ?_
  refine Eq.trans ?_ (REF_at _ _ _ _ _ _ _ _).symm
  reads_congr
  all_goals blk_simp [iblk, idx t]
  · exact (V4_at m c _).trans (by blk_ext [bt, idx t])
  · exact (V9_at m c _ (by blk_simp [idx t]; omega)).trans (by blk_ext [bt, idx t])
  · exact (V6_at m c _).trans (by blk_ext [bt, idx t])
  · exact (V10_at m c _).trans (by blk_ext [idx t])
  · exact (V9_at m c _ (by blk_simp [idx t]; omega)).trans (by blk_ext [bt, idx t])
  · exact (V8_at m c _).trans (by blk_ext [bt, idx t])
  · exact (V11_at m c _).trans (by blk_ext [idx t])
  · exact (V12_at m c _).trans (by blk_ext [idx t])

/-- The array the call leaves is the reference's term of the arguments. -/
theorem final (c : Dev nD) : (dats m 0 c).arrAt 8 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 8 _ (by decide +kernel) fun t _ y => ?_
  blk_simp
  rw [after0_8]; frame_out
  exact point m c t y

end Cert.Merge

end
-- ==== Proof.Final.lean ====
/- The final norm: the array the call leaves is the reference's. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNorm.Ref
open Cert.Reference4Ideal Cert.Reference4Ideal.Gen

/-- The reference's result as one term of its two arguments. -/
def REF (x0 : FVec Ideal S8x4224x1024 .f32) (x1 : FVec Ideal S1024 .f32) : FVec Ideal S8x4096x1024 .f32 :=
  extractStridedSlice S8x4096x1024 ![0, 16, 0] (mulf (mulf x0 (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x0 x0) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 x1))) slices_S8x4224x1024_S8x4096x1024_0_16_0

/-- One entry of a row of 1024 divided by the row's root mean square and scaled by a gain. -/
def nrm (row : Fin 1024 → EReal) (x g : EReal) : EReal :=
  x * Ideal.rsqrt (Ideal.div (∑ k : Fin 1024, row k * row k) (Scalar.ofBits (F := Ideal) .f32 0x44800000#32) + Scalar.ofBits (F := Ideal) .f32 0x358637BD#32) * g

theorem nrm_congr {r r' : Fin 1024 → EReal} {x x' g g' : EReal} (hr : ∀ k, r k = r' k) (hx : x = x') (hg : g = g') :
    nrm r x g = nrm r' x' g' := by
  rw [funext hr, hx, hg]

/-- The reference's term, read at one place. -/
theorem REF_at (x0 : FVec Ideal S8x4224x1024 .f32) (x1 : FVec Ideal S1024 .f32) (y : S8x4096x1024.Idx) :
    REF x0 x1 y = nrm (fun k => x0 (ix3 (y 0) ⟨16 + (y 1).val, by have := (y 1).isLt; change _ < 4096 at this; omega⟩ k))
      (x0 (ix3 (y 0) ⟨16 + (y 1).val, by have := (y 1).isLt; change _ < 4096 at this; omega⟩ (y 2))) (x1 (ix1 (y 2))) := by
  idx_vars y
  pointwise [REF, nrm]

end Cert.FinalNorm.Ref

namespace Cert.FinalNorm
open Cert.Kernel4Ideal Cert.Kernel4Ideal.Gen
open Cert.FinalNorm.Ref (REF REF_at nrm nrm_congr)
variable (m : (ℓ : Loc nD τ sig) → Buf (Elt Ideal) ℓ)

/-- The block index of every window at a grid point. -/
theorem idx : ∀ t : Fin cfg0.N, win0_0.index t = ![t.val / 8, t.val % 8, 0] ∧ win0_1.index t = ![t.val / 8, (t.val % 8 + 1) * 32, 0]
    ∧ win0_2.index t = ![0, 0] ∧ win0_3.index t = ![t.val / 8, t.val % 8, 0] ∧ t.val < 64 :=
  (by decide +kernel : ∀ t : Fin grid0.N, _)

/-- The gain as the call takes it. -/
theorem V0_at (c : Dev nD) (i : S1x1024.Idx) : V m c main_v0 i = m ((c : Thread nD τ).loc main_arg1) (ix1 (i 1)) := by
  entry_read
  idx_vars i
  pointwise

theorem pay2_at (v0 : FVec Ideal S1x496x1024 .f32) (v1 : FVec Ideal S1x1024 .f32) (y : S1x496x1024.Idx) :
    k0_pay2 (F := Ideal) v0 v1 y = nrm (fun k => v0 (ix3 0 (y 1) k)) (v0 (ix3 0 (y 1) (y 2))) (v1 (ix2 0 (y 2))) := by
  idx_vars y
  pointwise [k0_pay2, nrm]

theorem pay3_at (v0 : FVec Ideal S1x16x1024 .f32) (v1 : FVec Ideal S1x1024 .f32) (y : S1x16x1024.Idx) :
    k0_pay1 (F := Ideal) (k0_pay3 v0 v1) y = nrm (fun k => v0 (ix3 0 (y 1) k)) (v0 (ix3 0 (y 1) (y 2))) (v1 (ix2 0 (y 2))) := by
  idx_vars y
  pointwise [k0_pay1, k0_pay3, nrm]

/-- The first input's staging buffer: 512 rows of one batch. -/
theorem X0_at (c : Dev nD) (t : Fin cfg0.N) (j : S1x512x1024.Idx) : X0_0 m c t j = m ((c : Thread nD τ).loc main_arg0)
    (ix3 ⟨t.val / 8, by have := (idx t).2.2.2.2; omega⟩ ⟨t.val % 8 * 512 + (j 1).val, by have := (j 1).isLt; change _ < 512 at this; omega⟩ (j 2)) := by
  unfold X0_0 Pipeline.Window.fill
  rw [dif_pos (moved0_0 t j)]
  blk_point [iblk, V, idx t]

/-- The second input's block: sixteen rows of one batch. -/
theorem X1_at (c : Dev nD) (t : Fin cfg0.N) (j : S1x16x1024.Idx) : iblk m c 1 t j = m ((c : Thread nD τ).loc main_arg0)
    (ix3 ⟨t.val / 8, by have := (idx t).2.2.2.2; omega⟩ ⟨(t.val % 8 + 1) * 512 + (j 1).val, by have := (j 1).isLt; change _ < 16 at this; omega⟩ (j 2)) := by
  blk_point [iblk, V, idx t]

/-- The gain's block. -/
theorem X2_at (c : Dev nD) (t : Fin cfg0.N) (j : S1x1024.Idx) : iblk m c 2 t j = m ((c : Thread nD τ).loc main_arg1) (ix1 (j 1)) := by
  blk_simp [iblk, idx t]
  exact (V0_at m c _).trans (by blk_ext [idx t])

/-- The rows of the first input's buffer that the body loads, from row 16 on. -/
theorem XL_at (c : Dev nD) (t : Fin cfg0.N) (x : S1x496x1024.Idx) :
    View.ld (X0_0 m c t) (Rect.unit ![0, 16, 0] ![1, 496, 1024] inb_S1x512x1024_S1x496x1024_0_16_0) x = m ((c : Thread nD τ).loc main_arg0)
      (ix3 ⟨t.val / 8, by have := (idx t).2.2.2.2; omega⟩
        ⟨t.val % 8 * 512 + 16 + (x 1).val, by have := (x 1).isLt; change _ < 496 at this; omega⟩ (x 2)) :=
  (X0_at m c t _).trans (congrArg _ ((ix3_inj ..).2 ⟨rfl,
    Fin.ext (by show t.val % 8 * 512 + (16 + 1 * (x 1).val) = t.val % 8 * 512 + 16 + (x 1).val; omega),
    Fin.ext (by show 0 + 1 * (x 2).val = (x 2).val; omega)⟩))

/-- A block stored in two pieces, the rows from 496 on and the rows before. -/
theorem two_at (P : Vec Ideal S1x16x1024 .f32) (Q : Vec Ideal S1x496x1024 .f32) (y : S1x512x1024.Idx) (v : EReal)
    (g1 : ∀ x : S1x16x1024.Idx, (y 1 : ℕ) = 496 + x 1 → (y 2 : ℕ) = x 2 → P x = v)
    (g2 : ∀ x : S1x496x1024.Idx, (y 1 : ℕ) = x 1 → (y 2 : ℕ) = x 2 → Q x = v) :
    (View.canon [⟨Rect.unit ![0, 496, 0] ![1, 16, 1024] inb_S1x512x1024_S1x16x1024_0_496_0, P⟩,
      ⟨Rect.unit ![0, 0, 0] ![1, 496, 1024] inb_S1x512x1024_S1x496x1024_0_0_0, Q⟩] : Vec Ideal S1x512x1024 .f32) y = v := by
  canon_tiles x h using (View.cover_of_tiledBy [⟨Rect.unit ![0, 496, 0] ![1, 16, 1024] inb_S1x512x1024_S1x16x1024_0_496_0, P⟩,
      ⟨Rect.unit ![0, 0, 0] ![1, 496, 1024] inb_S1x512x1024_S1x496x1024_0_0_0, Q⟩] ![1, 16, 1024] (by sl_kernel_rfl) y)
  · exact g1 x ‹_› ‹_›
  · exact g2 x ‹_› ‹_›

/-- The array the call leaves is the reference's term of the arguments. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  rw [REF_at]
  refine two_at _ _ y _ (fun x e1 e2 => ?_) (fun x e1 e2 => ?_)
  · refine (pay3_at _ _ x).trans ?_
    simp only [X1_at, X2_at]
    refine nrm_congr (fun k => ?_) ?_ ?_
    all_goals blk_ext [idx t]
  · refine (pay2_at _ _ x).trans ?_
    simp only [X2_at]
    refine nrm_congr (fun k => (XL_at m c t _).trans ?_) ((XL_at m c t _).trans ?_) ?_
    all_goals blk_ext [idx t]

end Cert.FinalNorm

end
-- ==== Proof.MlpRun.lean ====
/- The channel mixer's run: what the body leaves at every grid point, named, and the frame. -/
module

public import proofs.«01_k».proof.Defs
public import proofs.«01_k».proof.Proof.Gen.Kernel5Ideal.Frame
public import proofs.«01_k».proof.Proof.Gen.Kernel5Ideal.Skeleton
public import Idealize.ShloMosaic.Lib.Pipeline.ValueKit
public import Idealize.ShloMosaic.Lib.Claim
public import Idealize.ShloMosaic.Lib.VecWindow
public import Idealize.ShloMosaic.Lib.Pointwise.Index

@[expose] public section

set_option maxRecDepth 16384

noncomputable section

namespace Cert.MlpRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch, of the grid coordinates. -/
abbrev cond0_0 (i : grid0.Coords) : Prop :=
  Scalar.cmpi .ne (Scalar.extui (Scalar.cmpi .eq (BitVec.ofNat 32 (i 2).val) 0#32) : BitVec 32) 0#32 = 1#1

/-- It holds at the first of every eleven points. -/
theorem hcond0_0 : ∀ t : Fin cfg0.N, cond0_0 (grid0.coords t) ↔ t.val % 11 = 0 :=
  (fun t => by
    have ht : t.val < 176 := Nat.lt_of_lt_of_eq t.isLt N_0
    have e2 : (grid0.coords t 2).val = t.val / 1 % 11 := Pipeline.Grid.coords_val t 2 (by decide) rfl
    simp only [cond0_0, e2]
    word_cmp
   : ∀ t : Fin grid0.N, cond0_0 (grid0.coords t) ↔ t.val % 11 = 0)

/-- A load of a whole buffer reads what it holds. -/
theorem load_whole {S : Shape} {e : EltTy} {M : Memref sig .tc .vmem S e} (h : M.IsWhole) (X : S.Idx → Elt F e) {off : Fin S.rank → ℕ}
    (inb : ∀ a, off a + S.size a ≤ S.size a) :
    View.readAt (Elt F) M.view (Rect.unit off S.size inb).toLoadRect (h.unread X) = X :=
  (View.readAt_full M.view _ inb).trans (h.read_unread X)

/-- A load of a window of a buffer reads that window of what it holds. -/
theorem load_win {S : Shape} {e : EltTy} {M : Memref sig .tc .vmem S e} (h : M.IsWhole) (X : S.Idx → Elt F e) {off size : Fin S.rank → ℕ}
    (inb : ∀ a, off a + size a ≤ S.size a) :
    View.readAt (Elt F) M.view (Rect.unit off size inb).toLoadRect (h.unread X) = VecWindow.window X off size inb := by
  rw [View.readAt_unit M.view _ inb rfl inb, h.read_unread]

/-- The rows `k, …, k + 2111` of a buffer whose first eight rows are `p` and whose next rows are `h`. -/
def sh (k : ℕ) (hk : k ≤ 8) (p : Vec F S1x8x256 .f32) (h : Vec F S1x2112x256 .f32) : Vec F S1x2112x256 .f32 := fun y =>
  if hy : (y 1).val + k < 8 then p (ix3 (0 : Fin 1) (⟨(y 1).val + k, hy⟩ : Fin 8) (y 2))
  else h (ix3 (0 : Fin 1) (⟨(y 1).val + k - 8, by have := (y 1).isLt; change (y 1).val < 2112 at this; omega⟩ : Fin 2112) (y 2))

/-- The last eight rows of `h`. -/
def tail (h : Vec F S1x2112x256 .f32) : Vec F S1x8x256 .f32 := fun y =>
  h (ix3 (0 : Fin 1) (⟨(y 1).val + 2104, by have := (y 1).isLt; change (y 1).val < 8 at this; omega⟩ : Fin 2112) (y 2))

/-- A load of rows `k, …` of one plane of the two-plane buffer after its first eight rows and the rest are stored. -/
theorem ld_sh (v : View sig .tc .vmem S2x2120x256 .f32) (b k : ℕ) (hk : k ≤ 8) (p : Vec F S1x8x256 .f32) (h : Vec F S1x2112x256 .f32)
    (i0 : ∀ a, (![b, 0, 0] : Fin 3 → ℕ) a + S1x8x256.size a ≤ S2x2120x256.size a)
    (i8 : ∀ a, (![b, 8, 0] : Fin 3 → ℕ) a + S1x2112x256.size a ≤ S2x2120x256.size a)
    (ik : ∀ a, (![b, k, 0] : Fin 3 → ℕ) a + S1x2112x256.size a ≤ S2x2120x256.size a)
    (L : List (View.Piece (Elt F) S2x2120x256 .f32)) :
    v.readCov (⟨Rect.unit (s := S2x2120x256) ![b, 8, 0] S1x2112x256.size i8, h⟩ :: ⟨Rect.unit (s := S2x2120x256) ![b, 0, 0] S1x8x256.size i0, p⟩ :: L)
      (Rect.unit (s := S2x2120x256) ![b, k, 0] S1x2112x256.size ik).toLoadRect = sh k hk p h := by
  unfold View.readCov
  rw [View.readAt_unit v _ ik rfl ik]
  funext y
  have h0 : (y 0).val < 1 := (y 0).isLt
  have h1 : (y 1).val < 2112 := (y 1).isLt
  have h2 : (y 2).val < 256 := (y 2).isLt
  unfold VecWindow.window sh
  by_cases hy : (y 1).val + k < 8
  · rw [dif_pos hy, View.read_writes_cons_unit_of_not_mem v _ i8 h _ _ rfl 1 (Or.inl (by
      show k + 1 * (y 1).val < 8; omega)),
      View.read_writes_cons_unit_of_mem v _ i0 p _ _ (ix3 (0 : Fin 1) (⟨(y 1).val + k, hy⟩ : Fin 8) (y 2)) rfl fun a => by
        match a with
        | ⟨0, _⟩ => show b + 1 * (y 0).val = b + 0; omega
        | ⟨1, _⟩ => show k + 1 * (y 1).val = 0 + ((y 1).val + k); omega
        | ⟨2, _⟩ => show 0 + 1 * (y 2).val = 0 + (y 2).val; omega]
  · rw [dif_neg hy, View.read_writes_cons_unit_of_mem v _ i8 h _ _ (ix3 (0 : Fin 1) (⟨(y 1).val + k - 8, by omega⟩ : Fin 2112) (y 2)) rfl fun a => by
        match a with
        | ⟨0, _⟩ => show b + 1 * (y 0).val = b + 0; omega
        | ⟨1, _⟩ => show k + 1 * (y 1).val = 8 + ((y 1).val + k - 8); omega
        | ⟨2, _⟩ => show 0 + 1 * (y 2).val = 0 + (y 2).val; omega]

/-- From row eight on it is `h`. -/
theorem sh_8 (p : Vec F S1x8x256 .f32) (h : Vec F S1x2112x256 .f32) : sh 8 (le_refl 8) p h = h := by
  funext y
  unfold sh
  rw [dif_neg (by omega)]
  refine congrArg h (funext fun a => Fin.ext ?_)
  match a with
  | ⟨0, _⟩ => have h0 : (y 0).val < 1 := (y 0).isLt; show 0 = (y 0).val; omega
  | ⟨1, _⟩ => show (y 1).val + 8 - 8 = (y 1).val; omega
  | ⟨2, _⟩ => rfl

/-- A load of the last eight rows of one plane. -/
theorem ld_tail (v : View sig .tc .vmem S2x2120x256 .f32) (b : ℕ) (h : Vec F S1x2112x256 .f32)
    (i8 : ∀ a, (![b, 8, 0] : Fin 3 → ℕ) a + S1x2112x256.size a ≤ S2x2120x256.size a)
    (ik : ∀ a, (![b, 2112, 0] : Fin 3 → ℕ) a + S1x8x256.size a ≤ S2x2120x256.size a)
    (L : List (View.Piece (Elt F) S2x2120x256 .f32)) :
    v.readCov (⟨Rect.unit (s := S2x2120x256) ![b, 8, 0] S1x2112x256.size i8, h⟩ :: L)
      (Rect.unit (s := S2x2120x256) ![b, 2112, 0] S1x8x256.size ik).toLoadRect = tail h := by
  unfold View.readCov
  rw [View.readAt_unit v _ ik rfl ik]
  funext y
  have h0 : (y 0).val < 1 := (y 0).isLt
  have h1 : (y 1).val < 8 := (y 1).isLt
  have h2 : (y 2).val < 256 := (y 2).isLt
  unfold VecWindow.window tail
  rw [View.read_writes_cons_unit_of_mem v _ i8 h _ _ (ix3 (0 : Fin 1) (⟨(y 1).val + 2104, by omega⟩ : Fin 2112) (y 2)) rfl fun a => by
        match a with
        | ⟨0, _⟩ => show b + 1 * (y 0).val = b + 0; omega
        | ⟨1, _⟩ => show 2112 + 1 * (y 1).val = 8 + ((y 1).val + 2104); omega
        | ⟨2, _⟩ => show 0 + 1 * (y 2).val = 0 + (y 2).val; omega]

/-- The three taps of a convolution weight, one row each. -/
abbrev tap0 (w : Vec F S3x256 .f32) : Vec F S1x256 .f32 := VecWindow.window w ![0, 0] S1x256.size inb_S3x256_S1x256_0_0
abbrev tap1 (w : Vec F S3x256 .f32) : Vec F S1x256 .f32 := VecWindow.window w ![1, 0] S1x256.size inb_S3x256_S1x256_1_0
abbrev tap2 (w : Vec F S3x256 .f32) : Vec F S1x256 .f32 := VecWindow.window w ![2, 0] S1x256.size inb_S3x256_S1x256_2_0

/-- The gate half: the convolution over the rows `h` of a row block and the eight rows `p` before them. -/
def gate (w : Vec F S3x256 .f32) (b : Vec F S1x256 .f32) (p : Vec F S1x8x256 .f32) (h : Vec F S1x2112x256 .f32) : Vec F S2112x256 .f32 :=
  k0_pay8 (k0_pay7 b (tap2 w) h) (tap1 w) (sh 7 (by decide) p h) (tap0 w) (sh 6 (by decide) p h)

/-- The value half: likewise. -/
def val (w : Vec F S3x256 .f32) (b : Vec F S1x256 .f32) (p : Vec F S1x8x256 .f32) (h : Vec F S1x2112x256 .f32) : Vec F S2112x256 .f32 :=
  k0_pay13 b (tap2 w) h (tap1 w) (sh 7 (by decide) p h) (tap0 w) (sh 6 (by decide) p h)

/-- The gate half's rows before the convolution. -/
abbrev hidG (u : Vec F S2112x1024 .bf16) (w : Vec F S1024x256 .bf16) : Vec F S1x2112x256 .f32 := k0_pay6 u w
/-- The value half's. -/
abbrev hidV (u : Vec F S2112x1024 .bf16) (w : Vec F S1024x256 .bf16) : Vec F S1x2112x256 .f32 := k0_pay12 (k0_pay10 u w)

/-- The eight rows before a row block in the gate half, of what the carry holds. -/
abbrev prevG (i : grid0.Coords) (cr : Vec F S11x2x8x256 .f32) : Vec F S1x8x256 .f32 :=
  k0_pay5 i (VecWindow.window cr (k0_off1 i) S1x1x8x256.size (k0_off1_inb i))
/-- In the value half. -/
abbrev prevV (i : grid0.Coords) (cr : Vec F S11x2x8x256 .f32) : Vec F S1x8x256 .f32 :=
  k0_pay11 (BitVec.ofNat 32 (i 1).val) (VecWindow.window cr (k0_off2 i) S1x1x8x256.size (k0_off2_inb i))

/-- The output rows after a point: `o` plus the point's columns of the gated product through the down projection. -/
def out (x2 x3 : Vec F S1024x256 .bf16) (x4 x5 : Vec F S3x256 .f32) (x6 x7 : Vec F S1x256 .f32) (x8 : Vec F S256x1024 .bf16)
    (u : Vec F S2112x1024 .bf16) (pG pV : Vec F S1x8x256 .f32) (o : Vec F S1x2112x1024 .f32) : Vec F S1x2112x1024 .f32 :=
  k0_pay1 (gate x4 x6 pG (hidG u x2)) (val x5 x7 pV (hidV u x3)) (k0_pay15 (gate x4 x6 pG (hidG u x2))) o x8

/-- The carry after a point: the point's columns hold the last eight rows of both halves. -/
def carry (i : grid0.Coords) (x2 x3 : Vec F S1024x256 .bf16) (u : Vec F S2112x1024 .bf16) (cr : Vec F S11x2x8x256 .f32) : Vec F S11x2x8x256 .f32 :=
  VecWindow.put (s := S11x2x8x256) (VecWindow.put (s := S11x2x8x256) cr (k0_off1 i) S1x1x8x256.size (k0_pay9 (tail (hidG u x2)))) (k0_off2 i) S1x1x8x256.size (k0_pay14 (tail (hidV u x3)))

set_option maxHeartbeats 8000000 in
/-- The body at a later point of a row block: the point's columns are added to the output rows. -/
theorem run_B (c : Dev nD) (i : grid0.Coords) (arg3 : Memref sig .tc .vmem S1x2112x1024 .f32) (harg3 : arg3.IsWhole) (arg4 : Memref sig .tc .vmem S1x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x2112x1024 .f32) (harg12 : arg12.IsWhole) (arg13 : Memref sig .tc .vmem S2112x1024 .bf16) (harg13 : arg13.IsWhole) (arg14 : Memref sig .tc .vmem S2x2120x256 .f32) (harg14 : arg14.IsWhole) (arg15 : Memref sig .tc .vmem S11x2x8x256 .f32) (harg15 : arg15.IsWhole) (hc0 : ¬cond0_0 i)
    (x0 : Vec F S1x2112x1024 .f32) (x1 : Vec F S1x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16) (o : Vec F S1x2112x1024 .f32) (u : Vec F S2112x1024 .bf16) (cr : Vec F S11x2x8x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare o ∗ owns (c : Thread nD τ) arg13 fullShare u ∗ (∃ d, owns (c : Thread nD τ) arg14 fullShare d) ∗ owns (c : Thread nD τ) arg15 fullShare cr
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (out x2 x3 x4 x5 x6 x7 x8 u (prevG i cr) (prevV i cr) o) ∗ owns (c : Thread nD τ) arg13 fullShare u ∗ (∃ d, owns (c : Thread nD τ) arg14 fullShare d) ∗ owns (c : Thread nD τ) arg15 fullShare (carry i x2 x3 u cr)) -∗ K ⟨⟩))
      ⊢ wp frame (wpE (defs₀ (F := F)) Variants.none c none) E (cc0_convglu_mlp i arg3 harg3 arg4 harg4 arg5 harg5 arg6 harg6 arg7 harg7 arg8 harg8 arg9 harg9 arg10 harg10 arg11 harg11 arg12 harg12 arg13 harg13 arg14 harg14 arg15 harg15) K := by
  simp only [cc0_convglu_mlp_eq_skeleton]; unfold cc0_convglu_mlp_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro
    unfold run_B.sl.v22 run_B.sl.v29 run_B.sl.v35 run_B.sl.v64 run_B.sl.v71 run_B.sl.v77 run_B.sl.H11_4 run_B.sl.v50 run_B.sl.H11_2
    rw [View.read_writes_full]
    dsimp only
    simp only [ld_sh _ 0 8 (le_refl 8), ld_sh _ 1 8 (le_refl 8), ld_sh _ 0 7 (by decide), ld_sh _ 1 7 (by decide), ld_sh _ 0 6 (by decide), ld_sh _ 1 6 (by decide), sh_8, View.readCov_full (s := S2112x1024) arg13.view, View.readCov_full (s := S1x2112x1024) arg12.view,
      load_whole harg3, load_whole harg4, load_whole harg5, load_whole harg6, load_whole harg7, load_whole harg8, load_whole harg9, load_whole harg10, load_whole harg11, load_whole harg12, load_whole harg13, load_win harg7, load_win harg8, load_win harg15]
    rfl
  isplitl [H10]
  · iexists _; isplitr; · ipureintro; exact harg13.read_unread _
    iexact H10
  isplitl [H11]
  · iexists _, _; isplitr; swap; · iexact H11
    ipureintro; rfl
  iexists _; isplitr; swap; · iexact H12
  ipureintro
  unfold run_B.sl.v82 run_B.sl.v40 run_B.sl.H11_4 run_B.sl.H11_2
  rw [View.read_writes_cons_put _ _ _ _ _ rfl, View.read_writes_cons_put _ _ _ _ _ rfl, View.writes_nil, harg15.read_unread]
  simp only [ld_tail _ 0, ld_tail _ 1, View.readCov_full (s := S2112x1024) arg13.view, load_whole harg3, load_whole harg4, load_whole harg5, load_whole harg6, load_whole harg13]
  rfl

set_option maxHeartbeats 8000000 in
/-- The body at the first point of a row block: the rows are normed into the scratch and copied to the output, then the point's columns are added. -/
theorem run_A (c : Dev nD) (i : grid0.Coords) (arg3 : Memref sig .tc .vmem S1x2112x1024 .f32) (harg3 : arg3.IsWhole) (arg4 : Memref sig .tc .vmem S1x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x1024 .bf16) (harg11 : arg11.IsWhole) (arg12 : Memref sig .tc .vmem S1x2112x1024 .f32) (harg12 : arg12.IsWhole) (arg13 : Memref sig .tc .vmem S2112x1024 .bf16) (harg13 : arg13.IsWhole) (arg14 : Memref sig .tc .vmem S2x2120x256 .f32) (harg14 : arg14.IsWhole) (arg15 : Memref sig .tc .vmem S11x2x8x256 .f32) (harg15 : arg15.IsWhole) (hc0 : cond0_0 i)
    (x0 : Vec F S1x2112x1024 .f32) (x1 : Vec F S1x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16) (cr : Vec F S11x2x8x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare cr
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (out x2 x3 x4 x5 x6 x7 x8 (k0_pay3 x0 x1) (prevG i cr) (prevV i cr) (k0_pay4 x0)) ∗ owns (c : Thread nD τ) arg13 fullShare (k0_pay3 x0 x1) ∗ (∃ d, owns (c : Thread nD τ) arg14 fullShare d) ∗ owns (c : Thread nD τ) arg15 fullShare (carry i x2 x3 (k0_pay3 x0 x1) cr)) -∗ K ⟨⟩))
      ⊢ wp frame (wpE (defs₀ (F := F)) Variants.none c none) E (cc0_convglu_mlp i arg3 harg3 arg4 harg4 arg5 harg5 arg6 harg6 arg7 harg7 arg8 harg8 arg9 harg9 arg10 harg10 arg11 harg11 arg12 harg12 arg13 harg13 arg14 harg14 arg15 harg15) K := by
  simp only [cc0_convglu_mlp_eq_skeleton]; unfold cc0_convglu_mlp_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg15.eq_unread hf12
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; swap; · iexact H9
    ipureintro
    unfold run_A.sl.v98 run_A.sl.H9_1 run_A.sl.v22 run_A.sl.v29 run_A.sl.v35 run_A.sl.v64 run_A.sl.v71 run_A.sl.v77 run_A.sl.H11_4 run_A.sl.v50 run_A.sl.H11_2 run_A.sl.v3 run_A.sl.H10_1
    rw [View.read_writes_full]
    dsimp only
    simp only [ld_sh _ 0 8 (le_refl 8), ld_sh _ 1 8 (le_refl 8), ld_sh _ 0 7 (by decide), ld_sh _ 1 7 (by decide), ld_sh _ 0 6 (by decide), ld_sh _ 1 6 (by decide), sh_8, View.readCov_full (s := S2112x1024) arg13.view, View.readCov_full (s := S1x2112x1024) arg12.view,
      load_whole harg3, load_whole harg4, load_whole harg5, load_whole harg6, load_whole harg7, load_whole harg8, load_whole harg9, load_whole harg10, load_whole harg11, load_whole harg12, load_whole harg13, load_win harg7, load_win harg8, load_win harg15]
    rfl
  isplitl [H10]
  · iexists _; isplitr; swap; · iexact H10
    ipureintro
    unfold run_A.sl.H10_1
    rw [View.read_writes_full, load_whole harg3, load_whole harg4]
  isplitl [H11]
  · iexists _, _; isplitr; swap; · iexact H11
    ipureintro; rfl
  iexists _; isplitr; swap; · iexact H12
  ipureintro
  unfold run_A.sl.v82 run_A.sl.v40 run_A.sl.H11_4 run_A.sl.H11_2 run_A.sl.v3 run_A.sl.H10_1
  rw [View.read_writes_cons_put _ _ _ _ _ rfl, View.read_writes_cons_put _ _ _ _ _ rfl, View.writes_nil, harg15.read_unread]
  simp only [ld_tail _ 0, ld_tail _ 1, View.readCov_full (s := S2112x1024) arg13.view, load_whole harg3, load_whole harg4, load_whole harg5, load_whole harg6, load_whole harg13]
  rfl

end Cert.MlpRun

end
-- ==== Proof.MlpFrame.lean ====
/- The channel mixer's run: what the points leave, and the frame. -/
module

public import proofs.«01_k».proof.Defs
public import proofs.«01_k».proof.Proof.Gen.Kernel5Ideal.Frame
public import proofs.«01_k».proof.Proof.Gen.Kernel5Ideal.Skeleton
public import proofs.«01_k».proof.Proof.MlpRun
public import Idealize.ShloMosaic.Lib.Pipeline.ValueKit
public import Idealize.ShloMosaic.Lib.Claim
public import Idealize.ShloMosaic.Lib.VecWindow
public import Idealize.ShloMosaic.Lib.Pointwise.Index

@[expose] public section

set_option maxRecDepth 16384

noncomputable section

namespace Cert.MlpRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block index of every window at a grid point. -/
theorem idx : ∀ t : Fin cfg0.N, win0_0.index t = ![t.val / 22, t.val / 11 % 2, 0] ∧ win0_1.index t = ![0, 0] ∧ win0_2.index t = ![0, t.val % 11]
    ∧ win0_3.index t = ![0, t.val % 11 + 11] ∧ win0_4.index t = ![0, t.val % 11] ∧ win0_5.index t = ![0, t.val % 11 + 11]
    ∧ win0_6.index t = ![0, t.val % 11] ∧ win0_7.index t = ![0, t.val % 11 + 11] ∧ win0_8.index t = ![t.val % 11, 0]
    ∧ win0_9.index t = ![t.val / 22, t.val / 11 % 2, 0] ∧ t.val < 176 :=
  (by decide +kernel : ∀ t : Fin grid0.N, _)

/-- Where the carry's two loads and stores lie, and the row block within its batch. -/
theorem offs : ∀ t : Fin cfg0.N, k0_off1 (grid0.coords t) = ![t.val % 11, 0, 0, 0] ∧ k0_off2 (grid0.coords t) = ![t.val % 11, 1, 0, 0]
    ∧ (grid0.coords t 1).val = t.val / 11 % 2 :=
  (by decide +kernel : ∀ t : Fin grid0.N, _)

/-- Each window's current staging memref at a point, and its wholeness. -/
abbrev ms0_0 (t : Fin cfg0.N) : Memref sig .tc .vmem S1x2112x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2112x1024 .f32 := win0_9.stage (cfg0.slots t 9)
abbrev hs0_9 (t : Fin cfg0.N) : (ms0_9 t).IsWhole := hstage0_9 ((cfg0.slots t 9).cast nbuf0_9)
/-- The scratches: the normed rows, the two halves with the eight rows before them, the last eight rows of every column block. -/
abbrev scM0_0 : Memref sig .tc .vmem S2112x1024 .bf16 := Memref.whole cc0_scratch0
abbrev scM0_1 : Memref sig .tc .vmem S2x2120x256 .f32 := Memref.whole cc0_scratch1
abbrev scM0_2 : Memref sig .tc .vmem S11x2x8x256 .f32 := Memref.whole cc0_scratch2

/-- The region's scratches and generator register, the scratches as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The normed rows of point `t`'s row block. -/
def U (c : Dev nD) (t : Fin cfg0.N) : Vec F S2112x1024 .bf16 := k0_pay3 (iblk m c 0 t) (iblk m c 1 t)

theorem iblk0_congr (c : Dev nD) (t t' : Fin cfg0.N) (h : t.val / 11 = t'.val / 11) :
    (iblk m c 0 t : Vec F S1x2112x1024 .f32) = iblk m c 0 t' := by
  have h' : t.val / 22 = t'.val / 22 := by omega
  funext y
  blk_simp [iblk]
  blk_ext [idx t, idx t', h, h']

theorem iblk1_congr (c : Dev nD) (t t' : Fin cfg0.N) : (iblk m c 1 t : Vec F S1x1024 .f32) = iblk m c 1 t' := by
  funext y
  blk_simp [iblk]
  blk_ext [idx t, idx t']

/-- The normed rows are the same at every point of a row block. -/
theorem U_congr (c : Dev nD) (t t' : Fin cfg0.N) (h : t.val / 11 = t'.val / 11) : U m c t = U m c t' :=
  congrArg₂ k0_pay3 (iblk0_congr m c t t' h) (iblk1_congr m c t t')

/-- The two halves' rows at a point, before the convolution. -/
def HG (c : Dev nD) (t : Fin cfg0.N) : Vec F S1x2112x256 .f32 := hidG (U m c t) (iblk m c 2 t)
def HV (c : Dev nD) (t : Fin cfg0.N) : Vec F S1x2112x256 .f32 := hidV (U m c t) (iblk m c 3 t)

/-- The point of the same columns in the row block before. -/
def tp (t : Fin cfg0.N) : Fin cfg0.N := ⟨t.val - 11, lt_of_le_of_lt (Nat.sub_le _ _) t.isLt⟩

/-- The eight rows before a point's rows in each half: zeros at the first row block of a batch. -/
def PG (c : Dev nD) (t : Fin cfg0.N) : Vec F S1x8x256 .f32 := k0_pay5 (grid0.coords t) (k0_pay9 (tail (HG m c (tp t))))
def PV (c : Dev nD) (t : Fin cfg0.N) : Vec F S1x8x256 .f32 := k0_pay11 (BitVec.ofNat 32 (grid0.coords t 1).val) (k0_pay14 (tail (HV m c (tp t))))

/-- At the first row block what the carry holds is not read. -/
theorem pay5_first (i : grid0.Coords) (h : (i 1).val = 0) (w w' : Vec F S1x1x8x256 .f32) : k0_pay5 i w = k0_pay5 i w' := by
  unfold k0_pay5; simp only [h]; rfl

theorem pay11_first (w w' : Vec F S1x1x8x256 .f32) : k0_pay11 (BitVec.ofNat 32 0) w = k0_pay11 (BitVec.ofNat 32 0) w' := by
  unfold k0_pay11; rfl

/-- What the carry is known to hold before point `n`: the last eight rows of both halves at each of the eleven points before. -/
def Good (c : Dev nD) (n : ℕ) (cr : Vec F S11x2x8x256 .f32) : Prop := ∀ t : Fin cfg0.N, t.val < n → n ≤ t.val + 11 →
  VecWindow.window cr (k0_off1 (grid0.coords t)) S1x1x8x256.size (k0_off1_inb (grid0.coords t)) = k0_pay9 (tail (HG m c t))
  ∧ VecWindow.window cr (k0_off2 (grid0.coords t)) S1x1x8x256.size (k0_off2_inb (grid0.coords t)) = k0_pay14 (tail (HV m c t))

theorem good_zero (c : Dev nD) (cr : Vec F S11x2x8x256 .f32) : Good m c 0 cr := fun t h _ => absurd h (Nat.not_lt_zero _)

theorem good_step (c : Dev nD) (t : Fin cfg0.N) (cr : Vec F S11x2x8x256 .f32) (h : Good m c t.val cr) :
    Good m c (t.val + 1) (carry (grid0.coords t) (iblk m c 2 t) (iblk m c 3 t) (U m c t) cr) := by
  intro t' h1 h2
  unfold carry
  have e1 := (offs t).1; have e2 := (offs t).2.1; have e1' := (offs t').1; have e2' := (offs t').2.1
  by_cases ht : t'.val = t.val
  · obtain rfl : t' = t := Fin.ext ht
    refine ⟨?_, VecWindow.window_put_same _ _ _ _ _⟩
    rw [VecWindow.window_put_of_disjoint _ _ _ _ _ _ _ 1 (Or.inl (by rw [e1, e2]; exact le_refl 1))]
    exact VecWindow.window_put_same _ _ _ _ _
  · have hne : t'.val % 11 + 1 ≤ t.val % 11 ∨ t.val % 11 + 1 ≤ t'.val % 11 := by omega
    have d11 : k0_off1 (grid0.coords t') 0 + S1x1x8x256.size 0 ≤ k0_off1 (grid0.coords t) 0 ∨ k0_off1 (grid0.coords t) 0 + S1x1x8x256.size 0 ≤ k0_off1 (grid0.coords t') 0 := by
      rw [e1, e1']; exact hne
    have d12 : k0_off1 (grid0.coords t') 0 + S1x1x8x256.size 0 ≤ k0_off2 (grid0.coords t) 0 ∨ k0_off2 (grid0.coords t) 0 + S1x1x8x256.size 0 ≤ k0_off1 (grid0.coords t') 0 := by
      rw [e2, e1']; exact hne
    have d21 : k0_off2 (grid0.coords t') 0 + S1x1x8x256.size 0 ≤ k0_off1 (grid0.coords t) 0 ∨ k0_off1 (grid0.coords t) 0 + S1x1x8x256.size 0 ≤ k0_off2 (grid0.coords t') 0 := by
      rw [e1, e2']; exact hne
    have d22 : k0_off2 (grid0.coords t') 0 + S1x1x8x256.size 0 ≤ k0_off2 (grid0.coords t) 0 ∨ k0_off2 (grid0.coords t) 0 + S1x1x8x256.size 0 ≤ k0_off2 (grid0.coords t') 0 := by
      rw [e2, e2']; exact hne
    rw [VecWindow.window_put_of_disjoint _ _ _ _ _ _ _ 0 d12, VecWindow.window_put_of_disjoint _ _ _ _ _ _ _ 0 d11,
      VecWindow.window_put_of_disjoint _ _ _ _ _ _ _ 0 d22, VecWindow.window_put_of_disjoint _ _ _ _ _ _ _ 0 d21]
    exact h t' (by omega) (by omega)

/-- Windows at equal offsets are equal. -/
theorem window_congr (cr : Vec F S11x2x8x256 .f32) {o o' : Fin 4 → ℕ} (h : o = o') (hi : ∀ a, o a + S1x1x8x256.size a ≤ S11x2x8x256.size a)
    (hi' : ∀ a, o' a + S1x1x8x256.size a ≤ S11x2x8x256.size a) :
    VecWindow.window (s := S11x2x8x256) cr o S1x1x8x256.size hi = VecWindow.window (s := S11x2x8x256) cr o' S1x1x8x256.size hi' := by
  subst h; rfl

theorem prevG_eq (c : Dev nD) (t : Fin cfg0.N) (cr : Vec F S11x2x8x256 .f32) (h : Good m c t.val cr) : prevG (grid0.coords t) cr = PG m c t := by
  by_cases h0 : t.val / 11 % 2 = 0
  · exact pay5_first _ ((offs t).2.2.trans h0) _ _
  · refine congrArg (k0_pay5 (grid0.coords t)) ?_
    have ht : 11 ≤ t.val := by by_contra hh; have : t.val / 11 = 0 := Nat.div_eq_of_lt (by omega); omega
    refine Eq.trans ?_ (h (tp t) (by show t.val - 11 < t.val; omega) (by show t.val ≤ t.val - 11 + 11; omega)).1
    refine window_congr cr ?_ _ _
    rw [(offs t).1, (offs (tp t)).1]
    show ![t.val % 11, 0, 0, 0] = ![(t.val - 11) % 11, 0, 0, 0]
    rw [show (t.val - 11) % 11 = t.val % 11 by omega]

theorem prevV_eq (c : Dev nD) (t : Fin cfg0.N) (cr : Vec F S11x2x8x256 .f32) (h : Good m c t.val cr) : prevV (grid0.coords t) cr = PV m c t := by
  by_cases h0 : t.val / 11 % 2 = 0
  · unfold prevV PV
    rw [(offs t).2.2.trans h0]
    exact pay11_first _ _
  · refine congrArg (k0_pay11 (BitVec.ofNat 32 (grid0.coords t 1).val)) ?_
    have ht : 11 ≤ t.val := by by_contra hh; have : t.val / 11 = 0 := Nat.div_eq_of_lt (by omega); omega
    refine Eq.trans ?_ (h (tp t) (by show t.val - 11 < t.val; omega) (by show t.val ≤ t.val - 11 + 11; omega)).2
    refine window_congr cr ?_ _ _
    rw [(offs t).2.1, (offs (tp t)).2.1]
    show ![t.val % 11, 1, 0, 0] = ![(t.val - 11) % 11, 1, 0, 0]
    rw [show (t.val - 11) % 11 = t.val % 11 by omega]

/-- The output rows after a point, of what they held before. -/
def stp (c : Dev nD) (t : Fin cfg0.N) (o : Vec F S1x2112x1024 .f32) : Vec F S1x2112x1024 .f32 :=
  out (iblk m c 2 t) (iblk m c 3 t) (iblk m c 4 t) (iblk m c 5 t) (iblk m c 6 t) (iblk m c 7 t) (iblk m c 8 t) (U m c t) (PG m c t) (PV m c t) o

/-- The output rows after every point: from the input rows at the first point of a row block. -/
def acc (c : Dev nD) : (n : ℕ) → n < cfg0.N → Vec F S1x2112x1024 .f32
  | 0, hn => stp m c ⟨0, hn⟩ (k0_pay4 (iblk m c 0 ⟨0, hn⟩))
  | n + 1, hn => stp m c ⟨n + 1, hn⟩ (if (n + 1) % 11 = 0 then k0_pay4 (iblk m c 0 ⟨n + 1, hn⟩) else acc c n (Nat.lt_of_succ_lt hn))

theorem acc_first (c : Dev nD) (t : Fin cfg0.N) (h : t.val % 11 = 0) : acc m c t.val t.isLt = stp m c t (k0_pay4 (iblk m c 0 t)) := by
  obtain ⟨n, hn⟩ := t
  cases n with
  | zero => rfl
  | succ n => exact congrArg (stp m c ⟨n + 1, hn⟩) (if_pos h)

theorem acc_next (c : Dev nD) (t : Fin cfg0.N) (h : ¬ t.val % 11 = 0) :
    acc m c t.val t.isLt = stp m c t (acc m c (t.val - 1) (lt_of_le_of_lt (Nat.sub_le _ _) t.isLt)) := by
  obtain ⟨n, hn⟩ := t
  cases n with
  | zero => exact absurd rfl h
  | succ n => exact congrArg (stp m c ⟨n + 1, hn⟩) (if_neg h)

/-- Within a row block the first scratch holds the normed rows. -/
def UPart (c : Dev nD) (n : ℕ) (hn : n ≤ cfg0.N) : sProp 𝕄 :=
  if h : n % 11 = 0 then iprop(∃ d, owns (c : Thread nD τ) scM0_0 fullShare d)
  else owns (c : Thread nD τ) scM0_0 fullShare (U m c ⟨n, by have : cfg0.N = 176 := N_0; omega⟩)

theorem UPart_first (c : Dev nD) (n : ℕ) (hn : n ≤ cfg0.N) (h : n % 11 = 0) :
    UPart m c n hn = iprop(∃ d, owns (c : Thread nD τ) scM0_0 fullShare d) := dif_pos h

theorem UPart_next (c : Dev nD) (t : Fin cfg0.N) (hn : t.val ≤ cfg0.N) (h : ¬ t.val % 11 = 0) :
    UPart m c t.val hn = owns (c : Thread nD τ) scM0_0 fullShare (U m c t) := dif_neg h

theorem UPart_of (c : Dev nD) (t : Fin cfg0.N) (hn : t.val + 1 ≤ cfg0.N) :
    (owns (c : Thread nD τ) scM0_0 fullShare (U m c t) : sProp 𝕄) ⊢ UPart m c (t.val + 1) hn := by
  by_cases h : (t.val + 1) % 11 = 0
  · rw [UPart_first m c _ hn h]
    iintro H
    iexists _; iexact H
  · have hN : cfg0.N = 176 := N_0
    rw [UPart_next m c ⟨t.val + 1, by omega⟩ hn h, U_congr m c ⟨t.val + 1, by omega⟩ t (by show (t.val + 1) / 11 = t.val / 11; omega)]

/-- What the scratches hold between points. -/
def PhiS (c : Dev nD) (n : ℕ) (hn : n ≤ cfg0.N) : sProp 𝕄 :=
  iprop(iprop(UPart m c n hn ∗ (∃ d, owns (c : Thread nD τ) scM0_1 fullShare d) ∗ (∃ cr, ⌜Good m c n cr⌝ ∗ owns (c : Thread nD τ) scM0_2 fullShare cr)) ∗ (∃ r, prngReg c r))

/-- What every staging buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => acc m c t.val t.isLt
  Φ t := PhiS m c t.val (Nat.le_of_lt_succ t.isLt)
  q := Pipeline.shareOf (cfg0).spec
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = acc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Within a row block the output buffer still holds what the point before left. -/
theorem before0_9 (c : Dev nD) (t : Fin cfg0.N) (h : ¬ t.val % 11 = 0) (d) :
    (dats m 0 c).before 9 t d = acc m c (t.val - 1) (lt_of_le_of_lt (Nat.sub_le _ _) t.isLt) := by
  have ht : t.val ≠ 0 := fun h0 => h (by rw [h0])
  have hfl : (cfg0.win 9).flush ⟨t.val - 1, Nat.lt_of_le_of_lt (Nat.sub_le _ _) t.isLt⟩ = false :=
    Bool.eq_false_iff.mpr fun hf => by
      have := (flush0_9 ⟨t.val - 1, Nat.lt_of_le_of_lt (Nat.sub_le _ _) t.isLt⟩).mp hf
      change (t.val - 1) % 11 = 10 at this
      omega
  have hlive : cfg0.idle 9 (cfg0.grid.coords ⟨t.val - 1, Nat.lt_of_le_of_lt (Nat.sub_le _ _) t.isLt⟩) = false := rfl
  rw [(dats m 0 c).before_of_pos 9 t ht ((cfg0.win 9).fetch_out rfl t), hfl, if_neg Bool.false_ne_true]
  unfold Dat.left
  rw [hlive]
  show (dats m 0 c).kept 9 _ d = _
  unfold Dat.kept
  rw [Pipeline.fill_of_clip_none 9 _ (fun _ => rfl) d ((dats m 0 c).after 9 _), Window.fill_cut, after0_9]

/-- The invariant at a point, by name. -/
theorem Phi_eq (c : Dev nD) (t : Fin (cfg0.N + 1)) : (dats m 0 c).Φ t = PhiS m c t.val (Nat.le_of_lt_succ t.isLt) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point takes what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [Phi_eq m c t.succ, Phi_eq m c t.castSucc]
  have hN : t.val < 176 := lt_of_lt_of_eq t.isLt (show cfg0.N = 176 from N_0)
  show iprop(PhiS m c t.val _ ∗ _) ⊢ wp frame _ _ _ (fun _ => iprop(PhiS m c (t.val + 1) _ ∗ _))
  unfold PhiS
  by_cases h0 : t.val % 11 = 0
  · rw [UPart_first m c t.val _ h0, acc_first m c t h0]
    unfold stp
    iintro ⟨⟨⟨HS0, HS1, ⟨%cr, %hG, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [← prevG_eq m c t cr hG, ← prevV_eq m c t cr hG]
    iapply (run_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) cr Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iapply (UPart_of m c t _)
          iexact HS0
        isplitl [HS1]
        · iexact HS1
        iexists _
        isplitr; · ipureintro; exact good_step m c t cr hG
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_9 m c t h0]
    rw [UPart_next m c t _ h0, acc_next m c t h0]
    unfold stp
    iintro ⟨⟨⟨HS0, HS1, ⟨%cr, %hG, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [← prevG_eq m c t cr hG, ← prevV_eq m c t cr hG]
    iapply (run_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (acc m c (t.val - 1) (lt_of_le_of_lt (Nat.sub_le _ _) t.isLt)) (U m c t) cr Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iapply (UPart_of m c t _)
          iexact HS0
        isplitl [HS1]
        · iexact HS1
        iexists _
        isplitr; · ipureintro; exact good_step m c t cr hG
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq, PhiA0_eq]
  unfold PhiS
  rw [UPart_first m c (0 : Fin (cfg0.N + 1)).val _ (by rw [Fin.val_zero])]
  iintro ⟨⟨H0, H1, ⟨%cr, H2⟩⟩, Hg⟩
  isplitl [H0 H1 H2]
  · isplitl [H0]
    · iexact H0
    isplitl [H1]
    · iexact H1
    iexists cr
    isplitr; · ipureintro; exact good_zero m c cr
    iexact H2
  iexact Hg

theorem hout (c : Dev nD) : (dats m 0 c).Φ (Fin.last cfg0.N) ⊢ Pipeline.ΦA spec0 c := by
  rw [Phi_eq, PhiA0_eq]
  unfold PhiS
  rw [UPart_first m c (Fin.last cfg0.N).val _ ((congrArg (· % 11) (N_0 : cfg0.N = 176)).trans rfl)]
  iintro ⟨⟨H0, H1, ⟨%cr, %hG, H2⟩⟩, Hg⟩
  isplitl [H0 H1 H2]
  · isplitl [H0]
    · iexact H0
    isplitl [H1]
    · iexact H1
    iexists cr
    iexact H2
  iexact Hg

set_option backward.isDefEq.respectTransparency.types false in
/-- Every fair execution ends with every array at what the points wrote, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The run with the array it leaves named, the arguments unchanged. -/
theorem run_blocks : θ_run defs (onTc (τ := τ) (main (F := F))) ⟨m, fun _ => 0, ρ⟩ fun r => ∀ c : Dev nD,
      r.2.mem ((c.tc : Thread nD τ).loc main_v4) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 9, h.2 c⟩)
    (θ_run_and (run_main m ρ) (frame_of m ρ (dats m) (A_eq m) (run_main m ρ)))

end Cert.MlpRun

end
-- ==== Proof.MlpRef.lean ====
/- The channel mixer as the reference writes it, at one place. -/
module

public import proofs.«01_k».proof.Defs
public import proofs.«01_k».proof.Proof.Gen.Reference5Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Mlp.Ref
open Cert.Reference5Ideal Cert.Reference5Ideal.Gen

/-- The reference's hidden rows: the normed rows times the first weight. -/
def HID (x0 : FVec Ideal S8x4224x1024 .f32) (x1 : FVec Ideal S1024 .f32) (x2 : FVec Ideal S1024x5632 .f32) : FVec Ideal S8x4224x5632 .f32 :=
  Host.dotGeneral dot_S8x4224x1024_S1024x5632_S8x4224x5632_2_0_01_1_n_n none (mulf (mulf x0 (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x0 x0) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 x1))) x2

/-- The hidden rows after two rows of zeros. -/
def PAD (W : FVec Ideal S8x4224x5632 .f32) : FVec Ideal S8x4226x5632 .f32 :=
  pad S8x4226x5632 ![0, 2, 0] ![0, 0, 0] ![0, 0, 0] W (sitofp .f32 (constantI S_ 32 0#32)) pads_S8x4224x5632_S8x4226x5632_000_200_000 h_S_

/-- The causal convolution of padded rows, as a sum of shifted products. -/
def CONV (P : FVec Ideal S8x4226x5632 .f32) (x3 : FVec Ideal S3x5632 .f32) (x4 : FVec Ideal S5632 .f32) : FVec Ideal S8x4224x5632 .f32 :=
  addf (addf (addf (mulf (extractStridedSlice S8x4224x5632 ![0, 0, 0] P slices_S8x4226x5632_S8x4224x5632_0_0_0) (broadcastInDim S8x4224x5632 ![0, 1, 2] bcast_S1x1x5632_S8x4224x5632_0_1_2 (broadcastInDim S1x1x5632 ![2] bcast_S5632_S1x1x5632_2 (shapeCast _ (extractStridedSlice S1x5632 ![0, 0] x3 slices_S3x5632_S1x5632_0_0) shapeCasts_S1x5632_S5632)))) (mulf (extractStridedSlice S8x4224x5632 ![0, 1, 0] P slices_S8x4226x5632_S8x4224x5632_0_1_0) (broadcastInDim S8x4224x5632 ![0, 1, 2] bcast_S1x1x5632_S8x4224x5632_0_1_2 (broadcastInDim S1x1x5632 ![2] bcast_S5632_S1x1x5632_2 (shapeCast _ (extractStridedSlice S1x5632 ![1, 0] x3 slices_S3x5632_S1x5632_1_0) shapeCasts_S1x5632_S5632))))) (mulf (extractStridedSlice S8x4224x5632 ![0, 2, 0] P slices_S8x4226x5632_S8x4224x5632_0_2_0) (broadcastInDim S8x4224x5632 ![0, 1, 2] bcast_S1x1x5632_S8x4224x5632_0_1_2 (broadcastInDim S1x1x5632 ![2] bcast_S5632_S1x1x5632_2 (shapeCast _ (extractStridedSlice S1x5632 ![2, 0] x3 slices_S3x5632_S1x5632_2_0) shapeCasts_S1x5632_S5632))))) (broadcastInDim S8x4224x5632 ![0, 1, 2] bcast_S1x1x5632_S8x4224x5632_0_1_2 (broadcastInDim S1x1x5632 ![2] bcast_S5632_S1x1x5632_2 x4))

/-- The gated rows: silu of the first half times the second half. -/
def GLU (C : FVec Ideal S8x4224x5632 .f32) : FVec Ideal S8x4224x2816 .f32 :=
  mulf (mulf (extractStridedSlice S8x4224x2816 ![0, 0, 0] C slices_S8x4224x5632_S8x4224x2816_0_0_0) (Host.divf (broadcastInDim S8x4224x2816 ![] bcast_S_S8x4224x2816 (constant S_ .f32 0x3F800000#32)) (addf (broadcastInDim S8x4224x2816 ![] bcast_S_S8x4224x2816 (constant S_ .f32 0x3F800000#32)) (Host.exp (Host.negf (extractStridedSlice S8x4224x2816 ![0, 0, 0] C slices_S8x4224x5632_S8x4224x2816_0_0_0)))))) (extractStridedSlice S8x4224x2816 ![0, 0, 2816] C slices_S8x4224x5632_S8x4224x2816_0_0_2816)

/-- The reference's result as one term of its six arguments. -/
def REF (x0 : FVec Ideal S8x4224x1024 .f32) (x1 : FVec Ideal S1024 .f32) (x2 : FVec Ideal S1024x5632 .f32) (x3 : FVec Ideal S3x5632 .f32) (x4 : FVec Ideal S5632 .f32) (x5 : FVec Ideal S2816x1024 .f32) : FVec Ideal S8x4224x1024 .f32 :=
  addf x0 (Host.dotGeneral dot_S8x4224x2816_S2816x1024_S8x4224x1024_2_0_01_1_n_n none (GLU (CONV (PAD (HID x0 x1 x2)) x3 x4)) x5)

/-- One entry of a row of 1024 divided by the row's root mean square and scaled by a gain. -/
def nrm (row : Fin 1024 → EReal) (x g : EReal) : EReal :=
  x * Ideal.rsqrt (Ideal.div (∑ k : Fin 1024, row k * row k) (Scalar.ofBits (F := Ideal) .f32 0x44800000#32) + Scalar.ofBits (F := Ideal) .f32 0x358637BD#32) * g

theorem nrm_congr {r r' : Fin 1024 → EReal} {x x' g g' : EReal} (hr : ∀ k, r k = r' k) (hx : x = x') (hg : g = g') :
    nrm r x g = nrm r' x' g' := by
  rw [funext hr, hx, hg]

/-- A column of an array `k` rows back in a batch, zero before the first row. -/
def past (W : Fin 4224 → EReal) (k : ℕ) (n : Fin 4224) : EReal := if h : k ≤ n.val then W ⟨n.val - k, by omega⟩ else 0

/-- The convolution's value from a row's three rows and the column's three taps and bias. -/
def cv (w0 w1 w2 b h0 h1 h2 : EReal) : EReal := b + w2 * h2 + w1 * h1 + w0 * h0

/-- The gated value. -/
def glu (g v : EReal) : EReal :=
  g * Ideal.div (Scalar.ofBits (F := Ideal) .f32 0x3F800000#32) (Scalar.ofBits (F := Ideal) .f32 0x3F800000#32 + Ideal.exp (-g)) * v

/-- The integer zero as a float is zero. -/
theorem zero_word : (FloatOps.sitofp (F := Ideal) FTy.f32 0#32) = (0 : EReal) := by
  show ((((0#32 : BitVec 32).toInt : ℤ) : ℝ) : EReal) = 0
  norm_num

/-- A hidden entry. -/
theorem HID_at (x0 : FVec Ideal S8x4224x1024 .f32) (x1 : FVec Ideal S1024 .f32) (x2 : FVec Ideal S1024x5632 .f32) (b : Fin 8) (n : Fin 4224) (q : Fin 5632) :
    HID x0 x1 x2 (ix3 b n q) = ∑ k : Fin 1024, nrm (fun l => x0 (ix3 b n l)) (x0 (ix3 b n k)) (x1 (ix1 k)) * x2 (ix2 k q) := by
  pointwise [HID, nrm]

/-- A padded entry. -/
theorem PAD_at (W : FVec Ideal S8x4224x5632 .f32) (b : Fin 8) (n : Fin 4226) (q : Fin 5632) :
    PAD W (ix3 b n q) = if h : 2 ≤ n.val then W (ix3 b ⟨n.val - 2, by omega⟩ q) else (0 : EReal) := by
  pointwise [PAD]
  by_cases h : 2 ≤ n.val
  · rw [dif_pos h]
    exact dif_pos ⟨h, by omega⟩
  · rw [dif_neg h]
    exact (dif_neg fun h' => h h'.1).trans zero_word

/-- A convolved entry of padded rows. -/
theorem CONV_at (P : FVec Ideal S8x4226x5632 .f32) (x3 : FVec Ideal S3x5632 .f32) (x4 : FVec Ideal S5632 .f32) (b : Fin 8) (n : Fin 4224) (q : Fin 5632) :
    CONV P x3 x4 (ix3 b n q) = P (ix3 b ⟨n.val, by omega⟩ q) * x3 (ix2 0 q) + P (ix3 b ⟨1 + n.val, by omega⟩ q) * x3 (ix2 1 q) + P (ix3 b ⟨2 + n.val, by omega⟩ q) * x3 (ix2 2 q) + x4 (ix1 q) := by
  pointwise [CONV]

/-- A gated entry. -/
theorem GLU_at (C : FVec Ideal S8x4224x5632 .f32) (b : Fin 8) (n : Fin 4224) (q : Fin 2816) :
    GLU C (ix3 b n q) = glu (C (ix3 b n ⟨q.val, by omega⟩)) (C (ix3 b n ⟨2816 + q.val, by omega⟩)) := by
  pointwise [GLU, glu]

/-- The result from the gated rows. -/
theorem down_at (x0 : FVec Ideal S8x4224x1024 .f32) (A : FVec Ideal S8x4224x2816 .f32) (x5 : FVec Ideal S2816x1024 .f32) (b : Fin 8) (n : Fin 4224) (l : Fin 1024) :
    addf x0 (Host.dotGeneral dot_S8x4224x2816_S2816x1024_S8x4224x1024_2_0_01_1_n_n none A x5) (ix3 b n l)
      = x0 (ix3 b n l) + ∑ k : Fin 2816, A (ix3 b n k) * x5 (ix2 k l) := by
  pointwise

/-- A convolved entry: the row itself and the two rows before it. -/
theorem conv_at (W : FVec Ideal S8x4224x5632 .f32) (x3 : FVec Ideal S3x5632 .f32) (x4 : FVec Ideal S5632 .f32) (b : Fin 8) (n : Fin 4224) (q : Fin 5632) :
    CONV (PAD W) x3 x4 (ix3 b n q) = cv (x3 (ix2 0 q)) (x3 (ix2 1 q)) (x3 (ix2 2 q)) (x4 (ix1 q))
      (past (fun i => W (ix3 b i q)) 2 n) (past (fun i => W (ix3 b i q)) 1 n) (past (fun i => W (ix3 b i q)) 0 n) := by
  have e2 : PAD W (ix3 b ⟨n.val, by omega⟩ q) = past (fun i => W (ix3 b i q)) 2 n := PAD_at W b _ q
  have e1 : PAD W (ix3 b ⟨1 + n.val, by omega⟩ q) = past (fun i => W (ix3 b i q)) 1 n := by
    rw [PAD_at]
    unfold past
    by_cases h : 1 ≤ n.val
    · rw [dif_pos h, dif_pos (show 2 ≤ 1 + n.val by omega)]
      exact congrArg (fun i : Fin 4224 => W (ix3 b i q)) (Fin.ext (show 1 + n.val - 2 = n.val - 1 by omega))
    · rw [dif_neg h, dif_neg (show ¬ 2 ≤ 1 + n.val by omega)]
  have e0 : PAD W (ix3 b ⟨2 + n.val, by omega⟩ q) = past (fun i => W (ix3 b i q)) 0 n := by
    rw [PAD_at]
    unfold past
    rw [dif_pos (Nat.zero_le _), dif_pos (show 2 ≤ 2 + n.val by omega)]
    exact congrArg (fun i : Fin 4224 => W (ix3 b i q)) (Fin.ext (show 2 + n.val - 2 = n.val - 0 by omega))
  rw [CONV_at, e0, e1, e2]
  unfold cv
  rw [mul_comm _ (x3 (ix2 0 q)), mul_comm _ (x3 (ix2 1 q)), mul_comm _ (x3 (ix2 2 q))]
  abel

/-- The reference at one place. -/
theorem REF_at (x0 : FVec Ideal S8x4224x1024 .f32) (x1 : FVec Ideal S1024 .f32) (x2 : FVec Ideal S1024x5632 .f32) (x3 : FVec Ideal S3x5632 .f32) (x4 : FVec Ideal S5632 .f32) (x5 : FVec Ideal S2816x1024 .f32)
    (b : Fin 8) (n : Fin 4224) (l : Fin 1024) :
    REF x0 x1 x2 x3 x4 x5 (ix3 b n l) = x0 (ix3 b n l) + ∑ k : Fin 2816,
      glu (CONV (PAD (HID x0 x1 x2)) x3 x4 (ix3 b n ⟨k.val, by omega⟩)) (CONV (PAD (HID x0 x1 x2)) x3 x4 (ix3 b n ⟨2816 + k.val, by omega⟩)) * x5 (ix2 k l) := by
  refine (down_at _ _ _ _ _ _).trans (congrArg (x0 (ix3 b n l) + ·) (Finset.sum_congr rfl fun k _ => ?_))
  rw [GLU_at]

end Cert.Mlp.Ref

end
-- ==== Proof.Mlp.lean ====
/- The channel mixer: the array the call leaves is the reference's. -/
module

public import proofs.«01_k».proof.Defs
public import proofs.«01_k».proof.Proof.MlpFrame
public import proofs.«01_k».proof.Proof.MlpRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp
open Cert.Kernel5Ideal Cert.Kernel5Ideal.Gen Cert.MlpRun
open Cert.Reference5Ideal (S8x4224x5632)
open Cert.Mlp.Ref (HID PAD CONV REF nrm nrm_congr past cv glu HID_at conv_at REF_at)
variable (m : (ℓ : Loc nD τ sig) → Buf (Elt Ideal) ℓ)

/-- The gain as the call takes it. -/
theorem V0_at (c : Dev nD) (i : S1x1024.Idx) : V m c main_v0 i = m ((c : Thread nD τ).loc main_arg1) (ix1 (i 1)) := by
  simp only [V, hostOps0, List.flatten_cons, List.flatten_nil, List.append_nil, List.cons_append, List.nil_append]
  after_results
  idx_vars i
  pointwise

/-- The first weight as the call takes it. -/
theorem V1_at (c : Dev nD) (i : S1024x5632.Idx) : V m c main_v1 i = m ((c : Thread nD τ).loc main_arg2) i := by
  simp only [V, hostOps0, List.flatten_cons, List.flatten_nil, List.append_nil, List.cons_append, List.nil_append]
  after_results
  idx_vars i
  pointwise

/-- The convolution's bias as the call takes it. -/
theorem V2_at (c : Dev nD) (i : S1x5632.Idx) : V m c main_v2 i = m ((c : Thread nD τ).loc main_arg4) (ix1 (i 1)) := by
  simp only [V, hostOps0, List.flatten_cons, List.flatten_nil, List.append_nil, List.cons_append, List.nil_append]
  after_results
  idx_vars i
  pointwise

/-- The second weight as the call takes it. -/
theorem V3_at (c : Dev nD) (i : S2816x1024.Idx) : V m c main_v3 i = m ((c : Thread nD τ).loc main_arg5) i := by
  simp only [V, hostOps0, List.flatten_cons, List.flatten_nil, List.append_nil, List.cons_append, List.nil_append]
  after_results
  idx_vars i
  pointwise

/-- The residual stream as the call takes it. -/
theorem Va0_at (c : Dev nD) (i : S8x4224x1024.Idx) : V m c main_arg0 i = m ((c : Thread nD τ).loc main_arg0) i := by
  simp only [V, hostOps0, List.flatten_cons, List.flatten_nil, List.append_nil, List.cons_append, List.nil_append]
  after_results

/-- The convolution's taps as the call takes them. -/
theorem Va3_at (c : Dev nD) (i : S3x5632.Idx) : V m c main_arg3 i = m ((c : Thread nD τ).loc main_arg3) i := by
  simp only [V, hostOps0, List.flatten_cons, List.flatten_nil, List.append_nil, List.cons_append, List.nil_append]
  after_results

/-- The rows' block: 2112 rows of one batch. -/
theorem X0_at (c : Dev nD) (t : Fin cfg0.N) (j : S1x2112x1024.Idx) (b : Fin 8) (n : Fin 4224)
    (hb : b.val = t.val / 22) (hn : n.val = t.val / 11 % 2 * 2112 + (j 1).val) :
    (iblk m c 0 t : Vec Ideal S1x2112x1024 .f32) j = m ((c : Thread nD τ).loc main_arg0) (ix3 b n (j 2)) := by
  have ht := (idx t).2.2.2.2.2.2.2.2.2.2
  have j0 : (j 0).val = 0 := by have := (j 0).isLt; change _ < 1 at this; omega
  obtain rfl : b = ⟨t.val / 22, by clear hb; omega⟩ := Fin.ext hb
  have hlt : t.val / 11 % 2 * 2112 + (j 1).val < 4224 := by have := (j 1).isLt; change _ < 2112 at this; clear hn; omega
  obtain rfl : n = ⟨t.val / 11 % 2 * 2112 + (j 1).val, hlt⟩ := Fin.ext hn
  clear hb hn
  blk_simp [iblk, idx t]
  exact (Va0_at m c _).trans (by blk_ext [idx t, j0])

/-- The gain's block. -/
theorem X1_at (c : Dev nD) (t : Fin cfg0.N) (j : S1x1024.Idx) : (iblk m c 1 t : Vec Ideal S1x1024 .f32) j = m ((c : Thread nD τ).loc main_arg1) (ix1 (j 1)) := by
  blk_simp [iblk, idx t]
  exact (V0_at m c _).trans (by blk_ext [idx t])

/-- The first weight's block of gate columns. -/
theorem X2_at (c : Dev nD) (t : Fin cfg0.N) (j : S1024x256.Idx) (q : Fin 5632) (hq : q.val = t.val % 11 * 256 + (j 1).val) :
    (iblk m c 2 t : Vec Ideal S1024x256 .bf16) j = m ((c : Thread nD τ).loc main_arg2) (ix2 (j 0) q) := by
  obtain rfl : q = ⟨t.val % 11 * 256 + (j 1).val, by have := (j 1).isLt; change _ < 256 at this; clear hq; omega⟩ := Fin.ext hq
  clear hq
  blk_simp [iblk, idx t]
  exact (V1_at m c _).trans (by blk_ext [idx t])

/-- The first weight's block of value columns. -/
theorem X3_at (c : Dev nD) (t : Fin cfg0.N) (j : S1024x256.Idx) (q : Fin 5632) (hq : q.val = (t.val % 11 + 11) * 256 + (j 1).val) :
    (iblk m c 3 t : Vec Ideal S1024x256 .bf16) j = m ((c : Thread nD τ).loc main_arg2) (ix2 (j 0) q) := by
  obtain rfl : q = ⟨(t.val % 11 + 11) * 256 + (j 1).val, by have := (j 1).isLt; change _ < 256 at this; clear hq; omega⟩ := Fin.ext hq
  clear hq
  blk_simp [iblk, idx t]
  exact (V1_at m c _).trans (by blk_ext [idx t])

/-- The taps' block of gate columns. -/
theorem X4_at (c : Dev nD) (t : Fin cfg0.N) (j : S3x256.Idx) (q : Fin 5632) (hq : q.val = t.val % 11 * 256 + (j 1).val) :
    (iblk m c 4 t : Vec Ideal S3x256 .f32) j = m ((c : Thread nD τ).loc main_arg3) (ix2 (j 0) q) := by
  obtain rfl : q = ⟨t.val % 11 * 256 + (j 1).val, by have := (j 1).isLt; change _ < 256 at this; clear hq; omega⟩ := Fin.ext hq
  clear hq
  blk_simp [iblk, idx t]
  exact (Va3_at m c _).trans (by blk_ext [idx t])

/-- The taps' block of value columns. -/
theorem X5_at (c : Dev nD) (t : Fin cfg0.N) (j : S3x256.Idx) (q : Fin 5632) (hq : q.val = (t.val % 11 + 11) * 256 + (j 1).val) :
    (iblk m c 5 t : Vec Ideal S3x256 .f32) j = m ((c : Thread nD τ).loc main_arg3) (ix2 (j 0) q) := by
  obtain rfl : q = ⟨(t.val % 11 + 11) * 256 + (j 1).val, by have := (j 1).isLt; change _ < 256 at this; clear hq; omega⟩ := Fin.ext hq
  clear hq
  blk_simp [iblk, idx t]
  exact (Va3_at m c _).trans (by blk_ext [idx t])

/-- The bias's block of gate columns. -/
theorem X6_at (c : Dev nD) (t : Fin cfg0.N) (j : S1x256.Idx) (q : Fin 5632) (hq : q.val = t.val % 11 * 256 + (j 1).val) :
    (iblk m c 6 t : Vec Ideal S1x256 .f32) j = m ((c : Thread nD τ).loc main_arg4) (ix1 q) := by
  obtain rfl : q = ⟨t.val % 11 * 256 + (j 1).val, by have := (j 1).isLt; change _ < 256 at this; clear hq; omega⟩ := Fin.ext hq
  clear hq
  blk_simp [iblk, idx t]
  exact (V2_at m c _).trans (by blk_ext [idx t])

/-- The bias's block of value columns. -/
theorem X7_at (c : Dev nD) (t : Fin cfg0.N) (j : S1x256.Idx) (q : Fin 5632) (hq : q.val = (t.val % 11 + 11) * 256 + (j 1).val) :
    (iblk m c 7 t : Vec Ideal S1x256 .f32) j = m ((c : Thread nD τ).loc main_arg4) (ix1 q) := by
  obtain rfl : q = ⟨(t.val % 11 + 11) * 256 + (j 1).val, by have := (j 1).isLt; change _ < 256 at this; clear hq; omega⟩ := Fin.ext hq
  clear hq
  blk_simp [iblk, idx t]
  exact (V2_at m c _).trans (by blk_ext [idx t])

/-- The second weight's block of rows. -/
theorem X8_at (c : Dev nD) (t : Fin cfg0.N) (j : S256x1024.Idx) (q : Fin 2816) (hq : q.val = t.val % 11 * 256 + (j 0).val) :
    (iblk m c 8 t : Vec Ideal S256x1024 .bf16) j = m ((c : Thread nD τ).loc main_arg5) (ix2 q (j 1)) := by
  obtain rfl : q = ⟨t.val % 11 * 256 + (j 0).val, by have := (j 0).isLt; change _ < 256 at this; clear hq; omega⟩ := Fin.ext hq
  clear hq
  blk_simp [iblk, idx t]
  exact (V3_at m c _).trans (by blk_ext [idx t])

/-- The normed rows at one place. -/
theorem pay3_at (x0 : FVec Ideal S1x2112x1024 .f32) (x1 : FVec Ideal S1x1024 .f32) (r : Fin 2112) (k : Fin 1024) :
    k0_pay3 (F := Ideal) x0 x1 (ix2 r k) = nrm (fun l => x0 (ix3 0 r l)) (x0 (ix3 0 r k)) (x1 (ix2 0 k)) := by
  pointwise [k0_pay3, k0_pay2, nrm]

/-- The first copy of the residual rows. -/
theorem pay4_at (x0 : FVec Ideal S1x2112x1024 .f32) (r : Fin 2112) (l : Fin 1024) :
    k0_pay4 (F := Ideal) x0 (ix3 0 r l) = x0 (ix3 0 r l) := by
  pointwise [k0_pay4, k0_pay2]

/-- The gate half's hidden rows at one place. -/
theorem hidG_at (u : FVec Ideal S2112x1024 .bf16) (w : FVec Ideal S1024x256 .bf16) (r : Fin 2112) (x : Fin 256) :
    hidG (F := Ideal) u w (ix3 0 r x) = ∑ k : Fin 1024, u (ix2 r k) * w (ix2 k x) := by
  pointwise [hidG, k0_pay6]

/-- The value half's hidden rows at one place. -/
theorem hidV_at (u : FVec Ideal S2112x1024 .bf16) (w : FVec Ideal S1024x256 .bf16) (r : Fin 2112) (x : Fin 256) :
    hidV (F := Ideal) u w (ix3 0 r x) = ∑ k : Fin 1024, u (ix2 r k) * w (ix2 k x) := by
  pointwise [hidV, k0_pay12, k0_pay10]

/-- A tap of the convolution. -/
theorem tap0_at (w : FVec Ideal S3x256 .f32) (x : Fin 256) : tap0 (F := Ideal) w (ix2 0 x) = w (ix2 0 x) := by
  unfold tap0 VecWindow.window; blk_ext
theorem tap1_at (w : FVec Ideal S3x256 .f32) (x : Fin 256) : tap1 (F := Ideal) w (ix2 0 x) = w (ix2 1 x) := by
  unfold tap1 VecWindow.window; blk_ext
theorem tap2_at (w : FVec Ideal S3x256 .f32) (x : Fin 256) : tap2 (F := Ideal) w (ix2 0 x) = w (ix2 2 x) := by
  unfold tap2 VecWindow.window; blk_ext

/-- The gate half's convolution from its taps. -/
theorem pay8_at (b w2 w1 w0 : FVec Ideal S1x256 .f32) (h h7 h6 : FVec Ideal S1x2112x256 .f32) (r : Fin 2112) (x : Fin 256) :
    k0_pay8 (F := Ideal) (k0_pay7 (F := Ideal) b w2 h) w1 h7 w0 h6 (ix2 r x)
      = cv (w0 (ix2 0 x)) (w1 (ix2 0 x)) (w2 (ix2 0 x)) (b (ix2 0 x)) (h6 (ix3 0 r x)) (h7 (ix3 0 r x)) (h (ix3 0 r x)) := by
  pointwise [k0_pay8, k0_pay7, cv]

/-- The value half's convolution from its taps. -/
theorem pay13_at (b w2 w1 w0 : FVec Ideal S1x256 .f32) (h h7 h6 : FVec Ideal S1x2112x256 .f32) (r : Fin 2112) (x : Fin 256) :
    k0_pay13 (F := Ideal) b w2 h w1 h7 w0 h6 (ix2 r x)
      = cv (w0 (ix2 0 x)) (w1 (ix2 0 x)) (w2 (ix2 0 x)) (b (ix2 0 x)) (h6 (ix3 0 r x)) (h7 (ix3 0 r x)) (h (ix3 0 r x)) := by
  pointwise [k0_pay13, cv]

/-- A point's addition to the output block. -/
theorem pay1_at (g v : FVec Ideal S2112x256 .f32) (o : FVec Ideal S1x2112x1024 .f32) (w : FVec Ideal S256x1024 .bf16) (r : Fin 2112) (l : Fin 1024) :
    k0_pay1 (F := Ideal) g v (k0_pay15 (F := Ideal) g) o w (ix3 0 r l)
      = o (ix3 0 r l) + ∑ x : Fin 256, glu (g (ix2 r x)) (v (ix2 r x)) * w (ix2 x l) := by
  have e : ∀ a : EReal, (0 : EReal) - a = -a := fun a => zero_sub a
  pointwise [k0_pay1, k0_pay15, glu, e]

/-- The eight rows before a row block, gate half: nothing in the first row block. -/
theorem pay5_at (i : grid0.Coords) (h : Vec Ideal S1x8x256 .f32) (r : Fin 8) (x : Fin 256) :
    k0_pay5 (F := Ideal) i (k0_pay9 (F := Ideal) h) (ix3 0 r x) = if (i 1).val = 0 then (0 : EReal) else h (ix3 0 r x) := by
  have hi : (i 1).val < 2 := (i 1).isLt
  by_cases h0 : (i 1).val = 0
  · rw [if_pos h0]
    pointwise [k0_pay5, k0_pay9, h0]
  · have h1 : (i 1).val = 1 := by omega
    rw [if_neg h0]
    pointwise [k0_pay5, k0_pay9, h1]
    rfl

/-- The eight rows before a row block, value half: nothing in the first row block. -/
theorem pay11_at (i : grid0.Coords) (h : Vec Ideal S1x8x256 .f32) (r : Fin 8) (x : Fin 256) :
    k0_pay11 (F := Ideal) (BitVec.ofNat 32 (i 1).val) (k0_pay14 (F := Ideal) h) (ix3 0 r x) = if (i 1).val = 0 then (0 : EReal) else h (ix3 0 r x) := by
  have hi : (i 1).val < 2 := (i 1).isLt
  by_cases h0 : (i 1).val = 0
  · rw [if_pos h0]
    pointwise [k0_pay11, k0_pay14, h0]
  · have h1 : (i 1).val = 1 := by omega
    rw [if_neg h0]
    pointwise [k0_pay11, k0_pay14, h1]
    rfl

/-- The batch of a point, and where row `r` of its block lies in the batch. -/
def bt (t : Fin cfg0.N) : Fin 8 := ⟨t.val / 22, by have := (idx t).2.2.2.2.2.2.2.2.2.2; omega⟩
def row (t : Fin cfg0.N) (r : Fin 2112) : Fin 4224 := ⟨t.val / 11 % 2 * 2112 + r.val, by omega⟩

/-- The reference's hidden rows of the arguments in memory, and its convolved rows. -/
def H (c : Dev nD) : FVec Ideal S8x4224x5632 .f32 :=
  HID (m ((c : Thread nD τ).loc main_arg0)) (m ((c : Thread nD τ).loc main_arg1)) (m ((c : Thread nD τ).loc main_arg2))
def CN (c : Dev nD) : FVec Ideal S8x4224x5632 .f32 :=
  CONV (PAD (H m c)) (m ((c : Thread nD τ).loc main_arg3)) (m ((c : Thread nD τ).loc main_arg4))

/-- The normed rows of a point are the reference's. -/
theorem U_at (c : Dev nD) (t : Fin cfg0.N) (r : Fin 2112) (k : Fin 1024) :
    (U m c t : Vec Ideal S2112x1024 .bf16) (ix2 r k) = nrm (fun l => m ((c : Thread nD τ).loc main_arg0) (ix3 (bt t) (row t r) l))
      (m ((c : Thread nD τ).loc main_arg0) (ix3 (bt t) (row t r) k)) (m ((c : Thread nD τ).loc main_arg1) (ix1 k)) :=
  (pay3_at (iblk m c 0 t) (iblk m c 1 t) r k).trans (nrm_congr (fun l => X0_at m c t (ix3 0 r l) (bt t) (row t r) rfl rfl)
    (X0_at m c t (ix3 0 r k) (bt t) (row t r) rfl rfl) (X1_at m c t (ix2 0 k)))

/-- The gate half's hidden rows of a point are the reference's. -/
theorem HG_at (c : Dev nD) (t : Fin cfg0.N) (r : Fin 2112) (x : Fin 256) (q : Fin 5632) (hq : q.val = t.val % 11 * 256 + x.val) :
    (HG m c t : Vec Ideal S1x2112x256 .f32) (ix3 0 r x) = H m c (ix3 (bt t) (row t r) q) := by
  refine (hidG_at (U m c t) (iblk m c 2 t) r x).trans (Eq.trans ?_ (HID_at _ _ _ _ _ _).symm)
  exact Finset.sum_congr rfl fun k _ => congrArg₂ (· * ·) (U_at m c t r k) (X2_at m c t (ix2 k x) q hq)

/-- The value half's hidden rows of a point are the reference's. -/
theorem HV_at (c : Dev nD) (t : Fin cfg0.N) (r : Fin 2112) (x : Fin 256) (q : Fin 5632) (hq : q.val = (t.val % 11 + 11) * 256 + x.val) :
    (HV m c t : Vec Ideal S1x2112x256 .f32) (ix3 0 r x) = H m c (ix3 (bt t) (row t r) q) := by
  refine (hidV_at (U m c t) (iblk m c 3 t) r x).trans (Eq.trans ?_ (HID_at _ _ _ _ _ _).symm)
  exact Finset.sum_congr rfl fun k _ => congrArg₂ (· * ·) (U_at m c t r k) (X3_at m c t (ix2 k x) q hq)

/-- The point before, of the same columns, lies in the same batch, one row block earlier. -/
theorem prev_at (t : Fin cfg0.N) (h : ¬ t.val / 11 % 2 = 0) (r : Fin 8) : bt (tp t) = bt t
    ∧ row (tp t) ⟨r.val + 2104, by omega⟩ = ⟨2104 + r.val, by omega⟩ ∧ (tp t).val % 11 = t.val % 11 := by
  refine ⟨Fin.ext ?_, Fin.ext ?_, ?_⟩
  · show (t.val - 11) / 22 = t.val / 22; omega
  · show (t.val - 11) / 11 % 2 * 2112 + (r.val + 2104) = 2104 + r.val; omega
  · show (t.val - 11) % 11 = t.val % 11; omega

/-- The eight rows before a point's rows, gate half: the reference's, or zeros at a batch's start. -/
theorem PG_at (c : Dev nD) (t : Fin cfg0.N) (r : Fin 8) (x : Fin 256) (q : Fin 5632) (hq : q.val = t.val % 11 * 256 + x.val) :
    (PG m c t : Vec Ideal S1x8x256 .f32) (ix3 0 r x) = if t.val / 11 % 2 = 0 then (0 : EReal) else H m c (ix3 (bt t) ⟨2104 + r.val, by omega⟩ q) := by
  refine (pay5_at (grid0.coords t) (tail (HG m c (tp t))) r x).trans ?_
  rw [(offs t).2.2]
  by_cases h : t.val / 11 % 2 = 0
  · rw [if_pos h, if_pos h]
  · obtain ⟨e1, e2, e3⟩ := prev_at t h r
    rw [if_neg h, if_neg h, ← e1, ← e2]
    exact HG_at m c (tp t) ⟨r.val + 2104, by omega⟩ x q (hq.trans (by rw [e3]))

/-- The eight rows before a point's rows, value half: the reference's, or zeros at a batch's start. -/
theorem PV_at (c : Dev nD) (t : Fin cfg0.N) (r : Fin 8) (x : Fin 256) (q : Fin 5632) (hq : q.val = (t.val % 11 + 11) * 256 + x.val) :
    (PV m c t : Vec Ideal S1x8x256 .f32) (ix3 0 r x) = if t.val / 11 % 2 = 0 then (0 : EReal) else H m c (ix3 (bt t) ⟨2104 + r.val, by omega⟩ q) := by
  refine (pay11_at (grid0.coords t) (tail (HV m c (tp t))) r x).trans ?_
  rw [(offs t).2.2]
  by_cases h : t.val / 11 % 2 = 0
  · rw [if_pos h, if_pos h]
  · obtain ⟨e1, e2, e3⟩ := prev_at t h r
    rw [if_neg h, if_neg h, ← e1, ← e2]
    exact HV_at m c (tp t) ⟨r.val + 2104, by omega⟩ x q (hq.trans (by rw [e3]))

/-- Rows moved by up to eight are the column's earlier rows. -/
theorem sh_at (W : Fin 4224 → EReal) (i : ℕ) (hi : i < 2) (p : Vec Ideal S1x8x256 .f32) (h : Vec Ideal S1x2112x256 .f32) (x : Fin 256)
    (hp : ∀ r : Fin 8, p (ix3 0 r x) = if i = 0 then (0 : EReal) else W ⟨2104 + r.val, by omega⟩)
    (hh : ∀ r : Fin 2112, h (ix3 0 r x) = W ⟨i * 2112 + r.val, by omega⟩) (k : ℕ) (hk : k ≤ 8) (r : Fin 2112) :
    sh k hk p h (ix3 0 r x) = past W (8 - k) ⟨i * 2112 + r.val, by omega⟩ := by
  by_cases hy : r.val + k < 8
  · refine (dif_pos hy).trans ((hp ⟨r.val + k, hy⟩).trans ?_)
    unfold past
    by_cases h0 : i = 0
    · rw [if_pos h0, dif_neg (show ¬ 8 - k ≤ i * 2112 + r.val by rw [h0]; omega)]
    · rw [if_neg h0, dif_pos (show 8 - k ≤ i * 2112 + r.val by omega)]
      exact congrArg W (Fin.ext (show 2104 + (r.val + k) = i * 2112 + r.val - (8 - k) by omega))
  · refine (dif_neg hy).trans ((hh ⟨r.val + k - 8, by omega⟩).trans ?_)
    unfold past
    rw [dif_pos (show 8 - k ≤ i * 2112 + r.val by omega)]
    exact congrArg W (Fin.ext (show i * 2112 + (r.val + k - 8) = i * 2112 + r.val - (8 - k) by omega))

/-- A column's own row. -/
theorem past_zero (W : Fin 4224 → EReal) (n : Fin 4224) : past W 0 n = W n := by
  unfold past
  exact dif_pos (Nat.zero_le _)

theorem cv_congr {w0 w1 w2 b h0 h1 h2 w0' w1' w2' b' h0' h1' h2' : EReal} (e0 : w0 = w0') (e1 : w1 = w1') (e2 : w2 = w2') (e3 : b = b')
    (f0 : h0 = h0') (f1 : h1 = h1') (f2 : h2 = h2') : cv w0 w1 w2 b h0 h1 h2 = cv w0' w1' w2' b' h0' h1' h2' := by
  rw [e0, e1, e2, e3, f0, f1, f2]

/-- The gate half's convolved rows of a point are the reference's. -/
theorem gate_at (c : Dev nD) (t : Fin cfg0.N) (r : Fin 2112) (x : Fin 256) (q : Fin 5632) (hq : q.val = t.val % 11 * 256 + x.val) :
    gate (F := Ideal) (iblk m c 4 t) (iblk m c 6 t) (PG m c t) (HG m c t) (ix2 r x) = CN m c (ix3 (bt t) (row t r) q) := by
  have hs := sh_at (fun i => H m c (ix3 (bt t) i q)) (t.val / 11 % 2) (Nat.mod_lt _ (by decide)) (PG m c t) (HG m c t) x
    (fun r' => PG_at m c t r' x q hq) (fun r' => HG_at m c t r' x q hq)
  refine (pay8_at _ _ _ _ _ _ _ r x).trans (Eq.trans ?_ (conv_at _ _ _ _ _ _).symm)
  exact cv_congr ((tap0_at _ x).trans (X4_at m c t (ix2 0 x) q hq)) ((tap1_at _ x).trans (X4_at m c t (ix2 1 x) q hq)) ((tap2_at _ x).trans (X4_at m c t (ix2 2 x) q hq))
    (X6_at m c t (ix2 0 x) q hq) (hs 6 (by decide) r) (hs 7 (by decide) r) ((HG_at m c t r x q hq).trans (past_zero (fun i => H m c (ix3 (bt t) i q)) (row t r)).symm)

/-- The value half's convolved rows of a point are the reference's. -/
theorem val_at (c : Dev nD) (t : Fin cfg0.N) (r : Fin 2112) (x : Fin 256) (q : Fin 5632) (hq : q.val = (t.val % 11 + 11) * 256 + x.val) :
    val (F := Ideal) (iblk m c 5 t) (iblk m c 7 t) (PV m c t) (HV m c t) (ix2 r x) = CN m c (ix3 (bt t) (row t r) q) := by
  have hs := sh_at (fun i => H m c (ix3 (bt t) i q)) (t.val / 11 % 2) (Nat.mod_lt _ (by decide)) (PV m c t) (HV m c t) x
    (fun r' => PV_at m c t r' x q hq) (fun r' => HV_at m c t r' x q hq)
  refine (pay13_at _ _ _ _ _ _ _ r x).trans (Eq.trans ?_ (conv_at _ _ _ _ _ _).symm)
  exact cv_congr ((tap0_at _ x).trans (X5_at m c t (ix2 0 x) q hq)) ((tap1_at _ x).trans (X5_at m c t (ix2 1 x) q hq)) ((tap2_at _ x).trans (X5_at m c t (ix2 2 x) q hq))
    (X7_at m c t (ix2 0 x) q hq) (hs 6 (by decide) r) (hs 7 (by decide) r) ((HV_at m c t r x q hq).trans (past_zero (fun i => H m c (ix3 (bt t) i q)) (row t r)).symm)

/-- Column `q`'s share of the result at one place, nothing from column 2816 on. -/
def term (c : Dev nD) (b : Fin 8) (n : Fin 4224) (l : Fin 1024) (q : ℕ) : EReal :=
  if h : q < 2816 then glu (CN m c (ix3 b n ⟨q, by omega⟩)) (CN m c (ix3 b n ⟨2816 + q, by omega⟩)) * m ((c : Thread nD τ).loc main_arg5) (ix2 ⟨q, h⟩ l) else 0

/-- A point adds its 256 columns' shares. -/
theorem stp_at (c : Dev nD) (t : Fin cfg0.N) (o : Vec Ideal S1x2112x1024 .f32) (r : Fin 2112) (l : Fin 1024) :
    stp m c t o (ix3 0 r l) = o (ix3 0 r l) + ∑ x : Fin 256, term m c (bt t) (row t r) l (t.val % 11 * 256 + x.val) := by
  unfold stp out
  refine (pay1_at _ _ _ _ r l).trans (congrArg (o (ix3 0 r l) + ·) (Finset.sum_congr rfl fun x _ => ?_))
  have hx : t.val % 11 * 256 + x.val < 2816 := by omega
  unfold term
  rw [dif_pos hx]
  exact congrArg₂ (· * ·) (congrArg₂ glu (gate_at m c t r x ⟨t.val % 11 * 256 + x.val, by omega⟩ rfl)
    (val_at m c t r x ⟨2816 + (t.val % 11 * 256 + x.val), by omega⟩ (show 2816 + (t.val % 11 * 256 + x.val) = (t.val % 11 + 11) * 256 + x.val by omega)))
    (X8_at m c t (ix2 x l) ⟨t.val % 11 * 256 + x.val, hx⟩ rfl)

/-- The residual stream in memory. -/
def res (c : Dev nD) : FVec Ideal S8x4224x1024 .f32 := m ((c : Thread nD τ).loc main_arg0)

/-- After column block `j` of a row block: the residual row and the shares of the columns so far. -/
theorem acc_at (c : Dev nD) (r : Fin 2112) (l : Fin 1024) : ∀ (j : ℕ) (t : Fin cfg0.N), t.val % 11 = j →
    acc m c t.val t.isLt (ix3 0 r l) = res m c (ix3 (bt t) (row t r) l)
      + ∑ q ∈ Finset.range (j * 256 + 256), term m c (bt t) (row t r) l q := by
  intro j
  induction j with
  | zero =>
    intro t ht
    rw [acc_first m c t ht, stp_at, ht]
    refine congrArg₂ (· + ·) ((pay4_at _ r l).trans (X0_at m c t (ix3 0 r l) (bt t) (row t r) rfl rfl)) ?_
    rw [Nat.zero_mul, Nat.zero_add, Finset.sum_range]
    exact Finset.sum_congr rfl fun x _ => by rw [Nat.zero_add]
  | succ j ih =>
    intro t ht
    have hne : ¬ t.val % 11 = 0 := by omega
    have hp := ih ⟨t.val - 1, lt_of_le_of_lt (Nat.sub_le _ _) t.isLt⟩ (show (t.val - 1) % 11 = j by omega)
    have eb : bt ⟨t.val - 1, lt_of_le_of_lt (Nat.sub_le _ _) t.isLt⟩ = bt t := Fin.ext (show (t.val - 1) / 22 = t.val / 22 by omega)
    have er : row ⟨t.val - 1, lt_of_le_of_lt (Nat.sub_le _ _) t.isLt⟩ r = row t r :=
      Fin.ext (show (t.val - 1) / 11 % 2 * 2112 + r.val = t.val / 11 % 2 * 2112 + r.val by
        have : (t.val - 1) / 11 = t.val / 11 := by omega
        rw [this])
    rw [eb, er] at hp
    rw [acc_next m c t hne, stp_at, ht]
    refine (congrArg (· + _) hp).trans ?_
    rw [add_assoc]
    refine congrArg (res m c (ix3 (bt t) (row t r) l) + ·) ?_
    rw [show (j + 1) * 256 + 256 = (j * 256 + 256) + 256 by omega,
      Finset.sum_range_add (term m c (bt t) (row t r) l) (j * 256 + 256) 256,
      Finset.sum_range fun x => term m c (bt t) (row t r) l (j * 256 + 256 + x)]
    exact congrArg (_ + ·) (Finset.sum_congr rfl fun x _ => by rw [show (j + 1) * 256 + x.val = j * 256 + 256 + x.val by omega])

/-- A row block's last value is the reference's. -/
theorem last_at (c : Dev nD) (t : Fin cfg0.N) (ht : t.val % 11 = 10) (r : Fin 2112) (l : Fin 1024) :
    acc m c t.val t.isLt (ix3 0 r l)
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 (bt t) (row t r) l) := by
  refine (acc_at m c r l 10 t ht).trans (Eq.trans (congrArg (_ + ·) ?_) (REF_at _ _ _ _ _ _ _ _ _).symm)
  rw [show 10 * 256 + 256 = 2816 from rfl, Finset.sum_range]
  exact Finset.sum_congr rfl fun k _ => dif_pos k.isLt

/-- A place of a row block's last value is the reference's where the array puts it. -/
theorem point (c : Dev nD) (t : Fin cfg0.N) (ht : t.val % 11 = 10) (y : S1x2112x1024.Idx) (i : S8x4224x1024.Idx)
    (h0 : (i 0).val = t.val / 22) (h1 : (i 1).val = t.val / 11 % 2 * 2112 + (y 1).val) (h2 : (i 2).val = (y 2).val) :
    acc m c t.val t.isLt y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i := by
  have hy : y = ix3 (0 : Fin 1) (y 1) (y 2) := funext fun a => Fin.ext (by
    match a with
    | ⟨0, _⟩ => have := (y 0).isLt; change (y 0).val < 1 at this; show (y 0).val = 0; omega
    | ⟨1, _⟩ => rfl
    | ⟨2, _⟩ => rfl)
  have hi : i = ix3 (bt t) (row t (y 1)) (y 2) := funext fun a => Fin.ext (by
    match a with
    | ⟨0, _⟩ => exact h0
    | ⟨1, _⟩ => exact h1
    | ⟨2, _⟩ => exact h2)
  rw [hi, hy]
  exact last_at m c t ht (y 1) (y 2)

/-- The array the call leaves is the reference's term of the arguments. -/
theorem final (c : Dev nD) : (dats m 0 c).arrAt 9 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  have ht : t.val % 11 = 10 := (flush0_9 t).mp hf
  blk_simp
  rw [after0_9]
  exact point m c t ht y _ (by blk_simp [idx t]) (by blk_simp [idx t]) (by blk_simp [idx t])

end Cert.Mlp

end
-- ==== Proof.lean ====
/- The claims of this directory, assembled: of every program its frame (it runs, its arguments end as they began, every
   semaphore counter ends at zero), and of every call with a value claim that the arrays it leaves are, over the extended
   reals, the reference's. The value proofs are in the modules imported below, one for each call. -/
module

public import proofs.«01_k».proof.Defs
public import proofs.«01_k».proof.Proof.Gen.Kernel
public import proofs.«01_k».proof.Proof.Gen.KernelIdeal
public import proofs.«01_k».proof.Proof.Gen.Kernel.Frame
public import proofs.«01_k».proof.Proof.Gen.KernelIdeal.Frame
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Reference2Ideal.Run
public import proofs.«01_k».proof.Proof.InProj
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.Merge
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Reference4Ideal.Run
public import proofs.«01_k».proof.Proof.Final
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Mlp
public import Idealize.ShloMosaic.Adequacy
public import Idealize.ShloMosaic.Lib.Claim

@[expose] public section

noncomputable section

namespace Cert.Proof

open Idealize.ShloMosaic Idealize.SL.Sem

/-- Of the SSD mixer, at the bits: the call runs and leaves its arguments. -/
theorem frame_k1 : Cert.quiescent_Kernel := fun m ρ _ => Cert.Kernel.Gen.frame m ρ

/-- The same over the extended reals. -/
theorem frame_i1 : Cert.quiescent_KernelIdeal := fun m ρ _ => Cert.KernelIdeal.Gen.frame m ρ

set_option smartUnfolding false in
/-- Of the first norm and the input projection, at the bits: the call runs and leaves its arguments (its text is the one over the extended reals). -/
theorem frame_k2 : Cert.quiescent_Kernel2 := fun m ρ _ =>
  (θ_run Cert.Kernel2Ideal.defs _ _).mono (fun _ h => h) (Cert.InProj.frame (F := Bits) m ρ)

/-- The same over the extended reals. -/
theorem frame_i2 : Cert.quiescent_Kernel2Ideal := fun m ρ _ => Cert.InProj.frame m ρ

/-- The reference of the first norm and the input projection runs and leaves its arguments; it has no semaphore. -/
theorem frame_r2 : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)

/-- The arrays the first norm and the input projection leaves are the reference's, over the extended reals. -/
theorem algebraic_2 : Cert.algebraic_Kernel2Ideal_Reference2Ideal := by
  pair_intro
  · run_from Cert.InProj.run_blocks m g
  · run_from Cert.Reference2Ideal.Value.run m' g'
    · rw [(hagree c).2.2]
      exact (Cert.InProj.final4 m c).symm
    · exact (Cert.InProj.final5 m c).symm

/-- Of the gated merge, at the bits: the call runs and leaves its arguments. -/
theorem frame_k3 : Cert.quiescent_Kernel3 := fun m ρ _ => Cert.Kernel3.Gen.frame m ρ

/-- The same over the extended reals. -/
theorem frame_i3 : Cert.quiescent_Kernel3Ideal := fun m ρ _ => Cert.Kernel3Ideal.Gen.frame m ρ

/-- The reference of the gated merge runs and leaves its arguments; it has no semaphore. -/
theorem frame_r3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The arrays the gated merge leaves are the reference's, over the extended reals. -/
theorem algebraic_3 : Cert.algebraic_Kernel3Ideal_Reference3Ideal := by
  pair_intro
  · run_from Cert.Kernel3Ideal.Value.run_blocks m g
  · run_from Cert.Reference3Ideal.Value.run m' g'
    exact (Cert.Merge.final m c).symm

/-- Of the final norm, at the bits: the call runs and leaves its arguments. -/
theorem frame_k4 : Cert.quiescent_Kernel4 := fun m ρ _ => Cert.Kernel4.Gen.frame m ρ

/-- The same over the extended reals. -/
theorem frame_i4 : Cert.quiescent_Kernel4Ideal := fun m ρ _ => Cert.Kernel4Ideal.Gen.frame m ρ

/-- The reference of the final norm runs and leaves its arguments; it has no semaphore. -/
theorem frame_r4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The arrays the final norm leaves are the reference's, over the extended reals. -/
theorem algebraic_4 : Cert.algebraic_Kernel4Ideal_Reference4Ideal := by
  pair_intro
  · run_from Cert.Kernel4Ideal.Value.run_blocks m g
  · run_from Cert.Reference4Ideal.Value.run m' g'
    exact (Cert.FinalNorm.final m c).symm

set_option smartUnfolding false in
/-- Of the channel mixer, at the bits: the call runs and leaves its arguments (its text is the one over the extended reals). -/
theorem frame_k5 : Cert.quiescent_Kernel5 := fun m ρ _ =>
  (θ_run Cert.Kernel5Ideal.defs _ _).mono (fun _ h => h) (Cert.MlpRun.frame (F := Bits) m ρ)

/-- The same over the extended reals. -/
theorem frame_i5 : Cert.quiescent_Kernel5Ideal := fun m ρ _ => Cert.MlpRun.frame m ρ

/-- The reference of the channel mixer runs and leaves its arguments; it has no semaphore. -/
theorem frame_r5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The arrays the channel mixer leaves are the reference's, over the extended reals. -/
theorem algebraic_5 : Cert.algebraic_Kernel5Ideal_Reference5Ideal := by
  pair_intro
  · run_from Cert.MlpRun.run_blocks m g
  · run_from Cert.Reference5Ideal.Value.run m' g'
    unfold Cert.Reference5Ideal.Value.res_main_v43
    rw [(hagree c).1, (hagree c).2.1, (hagree c).2.2.1, (hagree c).2.2.2.1, (hagree c).2.2.2.2.1, (hagree c).2.2.2.2.2]
    exact (Cert.Mlp.final m c).symm

/-- Every claim of this directory. -/
theorem claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    frame_k1, frame_i1, frame_k2, frame_i2, frame_r2, frame_k3, frame_i3, frame_r3, frame_k4, frame_i4, frame_r4, frame_k5, frame_i5, frame_r5, trivial, trivial, algebraic_2, trivial, algebraic_3, trivial, algebraic_4, trivial, algebraic_5⟩

end Cert.Proof

end
